-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x64x8x8x128 : Shape := ⟨5, ![32, 64, 8, 8, 128]⟩
abbrev S_ : Shape := ⟨0, ![]⟩
abbrev S256x128x2x2 : Shape := ⟨4, ![256, 128, 2, 2]⟩
abbrev S256 : Shape := ⟨1, ![256]⟩
abbrev S512x256x2x2 : Shape := ⟨4, ![512, 256, 2, 2]⟩
abbrev S512 : Shape := ⟨1, ![512]⟩
abbrev S1024x512x2x2 : Shape := ⟨4, ![1024, 512, 2, 2]⟩
abbrev S1024 : Shape := ⟨1, ![1024]⟩
abbrev S1024x1024 : Shape := ⟨2, ![1024, 1024]⟩
abbrev S32x14 : Shape := ⟨2, ![32, 14]⟩

class Facts : Prop where
  bcast_S_S32x64x8x8x128 : S_.BroadcastsInDim S32x64x8x8x128 (![] : Fin 0 → Fin S32x64x8x8x128.rank)
  reducesTo_S32x64x8x8x128_S_d0_1_2_3_4 : S32x64x8x8x128.ReducesTo [0, 1, 2, 3, 4] S_
  h_S_ : 0 < S_.numel
  bcast_S_S256x128x2x2 : S_.BroadcastsInDim S256x128x2x2 (![] : Fin 0 → Fin S256x128x2x2.rank)
  reducesTo_S256x128x2x2_S_d0_1_2_3 : S256x128x2x2.ReducesTo [0, 1, 2, 3] S_
  bcast_S_S256 : S_.BroadcastsInDim S256 (![] : Fin 0 → Fin S256.rank)
  reducesTo_S256_S_d0 : S256.ReducesTo [0] S_
  bcast_S_S512x256x2x2 : S_.BroadcastsInDim S512x256x2x2 (![] : Fin 0 → Fin S512x256x2x2.rank)
  reducesTo_S512x256x2x2_S_d0_1_2_3 : S512x256x2x2.ReducesTo [0, 1, 2, 3] S_
  bcast_S_S512 : S_.BroadcastsInDim S512 (![] : Fin 0 → Fin S512.rank)
  reducesTo_S512_S_d0 : S512.ReducesTo [0] S_
  bcast_S_S1024x512x2x2 : S_.BroadcastsInDim S1024x512x2x2 (![] : Fin 0 → Fin S1024x512x2x2.rank)
  reducesTo_S1024x512x2x2_S_d0_1_2_3 : S1024x512x2x2.ReducesTo [0, 1, 2, 3] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S32x14 : S_.BroadcastsInDim S32x14 (![] : Fin 0 → Fin S32x14.rank)
  reducesTo_S32x14_S_d0_1 : S32x14.ReducesTo [0, 1] S_

variable [Facts]

def fn_part4 {F : FTy → Type} [FloatOps F] (main_arg15 : FVec F S1024 .f32) (main_arg16 : FVec F S32x14 .f32) (main_v63 : IVec S_ 1) (main_v67 : IVec S_ 1) : IVec S_ 1 :=
  let main_v68 : IVec S_ 1 := andi main_v63 main_v67
  let main_v69 : FVec F S1024 .f32 := Host.absf main_arg15
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S32x14 .f32 := Host.absf main_arg16
  let main_cst_28 : FVec F S_ .f32 := constant S_ .f32 0x7F800000#32
  let main_v75 : FVec F S32x14 .f32 := broadcastInDim S32x14 ![] bcast_S_S32x14 main_cst_28
  let main_v76 : IVec S32x14 1 := cmpf .olt main_v74 main_v75
  let main_c_29 : IVec S_ 1 := constantI S_ 1 1#1
  let main_v77 : IVec S_ 1 := (fun x v => Host.reduce IntOp.andi x v reducesTo_S32x14_S_d0_1 h_S_) main_v76 main_c_29
  let main_v78 : IVec S_ 1 := andi main_v73 main_v77
  main_v78

def fn_part3 {F : FTy → Type} [FloatOps F] (main_arg12 : FVec F S1024 .f32) (main_arg13 : FVec F S1024 .f32) (main_arg14 : FVec F S1024x1024 .f32) (main_arg15 : FVec F S1024 .f32) (main_arg16 : FVec F S32x14 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg14
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg15 main_arg16 main_v63 main_v67

def fn_part2 {F : FTy → Type} [FloatOps F] (main_arg8 : FVec F S512 .f32) (main_arg9 : FVec F S512 .f32) (main_arg10 : FVec F S1024x512x2x2 .f32) (main_arg11 : FVec F S1024 .f32) (main_arg12 : FVec F S1024 .f32) (main_arg13 : FVec F S1024 .f32) (main_arg14 : FVec F S1024x1024 .f32) (main_arg15 : FVec F S1024 .f32) (main_arg16 : FVec F S32x14 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512x2x2 .f32 := Host.absf main_arg10
  let main_cst_16 : FVec F S_ .f32 := constant S_ .f32 0x7F800000#32
  let main_v45 : FVec F S1024x512x2x2 .f32 := broadcastInDim S1024x512x2x2 ![] bcast_S_S1024x512x2x2 main_cst_16
  let main_v46 : IVec S1024x512x2x2 1 := cmpf .olt main_v44 main_v45
  let main_c_17 : IVec S_ 1 := constantI S_ 1 1#1
  let main_v47 : IVec S_ 1 := (fun x v => Host.reduce IntOp.andi x v reducesTo_S1024x512x2x2_S_d0_1_2_3 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_arg15 main_arg16 main_v48 main_v49 main_v50

def fn_part1 {F : FTy → Type} [FloatOps F] (main_arg5 : FVec F S256 .f32) (main_arg6 : FVec F S512x256x2x2 .f32) (main_arg7 : FVec F S512 .f32) (main_arg8 : FVec F S512 .f32) (main_arg9 : FVec F S512 .f32) (main_arg10 : FVec F S1024x512x2x2 .f32) (main_arg11 : FVec F S1024 .f32) (main_arg12 : FVec F S1024 .f32) (main_arg13 : FVec F S1024 .f32) (main_arg14 : FVec F S1024x1024 .f32) (main_arg15 : FVec F S1024 .f32) (main_arg16 : FVec F S32x14 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256x2x2 .f32 := Host.absf main_arg6
  let main_cst_8 : FVec F S_ .f32 := constant S_ .f32 0x7F800000#32
  let main_v25 : FVec F S512x256x2x2 .f32 := broadcastInDim S512x256x2x2 ![] bcast_S_S512x256x2x2 main_cst_8
  let main_v26 : IVec S512x256x2x2 1 := cmpf .olt main_v24 main_v25
  let main_c_9 : IVec S_ 1 := constantI S_ 1 1#1
  let main_v27 : IVec S_ 1 := (fun x v => Host.reduce IntOp.andi x v reducesTo_S512x256x2x2_S_d0_1_2_3 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S32x64x8x8x128 .f32) (main_arg1 : IVec S_ 1) (main_arg2 : FVec F S256x128x2x2 .f32) (main_arg3 : FVec F S256 .f32) (main_arg4 : FVec F S256 .f32) (main_arg5 : FVec F S256 .f32) (main_arg6 : FVec F S512x256x2x2 .f32) (main_arg7 : FVec F S512 .f32) (main_arg8 : FVec F S512 .f32) (main_arg9 : FVec F S512 .f32) (main_arg10 : FVec F S1024x512x2x2 .f32) (main_arg11 : FVec F S1024 .f32) (main_arg12 : FVec F S1024 .f32) (main_arg13 : FVec F S1024 .f32) (main_arg14 : FVec F S1024x1024 .f32) (main_arg15 : FVec F S1024 .f32) (main_arg16 : FVec F S32x14 .f32) : IVec S_ 1 :=
  let main_v0 : FVec F S32x64x8x8x128 .f32 := Host.absf main_arg0
  let main_cst : FVec F S_ .f32 := constant S_ .f32 0x7F800000#32
  let main_v1 : FVec F S32x64x8x8x128 .f32 := broadcastInDim S32x64x8x8x128 ![] bcast_S_S32x64x8x8x128 main_cst
  let main_v2 : IVec S32x64x8x8x128 1 := cmpf .olt main_v0 main_v1
  let main_c : IVec S_ 1 := constantI S_ 1 1#1
  let main_v3 : IVec S_ 1 := (fun x v => Host.reduce IntOp.andi x v reducesTo_S32x64x8x8x128_S_d0_1_2_3_4 h_S_) main_v2 main_c
  let main_v4 : FVec F S256x128x2x2 .f32 := Host.absf main_arg2
  let main_cst_0 : FVec F S_ .f32 := constant S_ .f32 0x7F800000#32
  let main_v5 : FVec F S256x128x2x2 .f32 := broadcastInDim S256x128x2x2 ![] bcast_S_S256x128x2x2 main_cst_0
  let main_v6 : IVec S256x128x2x2 1 := cmpf .olt main_v4 main_v5
  let main_c_1 : IVec S_ 1 := constantI S_ 1 1#1
  let main_v7 : IVec S_ 1 := (fun x v => Host.reduce IntOp.andi x v reducesTo_S256x128x2x2_S_d0_1_2_3 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S32x64x8x8x128 : Shape := ⟨5, ![32, 64, 8, 8, 128]⟩
abbrev S_ : Shape := ⟨0, ![]⟩
abbrev S256x128x2x2 : Shape := ⟨4, ![256, 128, 2, 2]⟩
abbrev S256 : Shape := ⟨1, ![256]⟩
abbrev S512x256x2x2 : Shape := ⟨4, ![512, 256, 2, 2]⟩
abbrev S512 : Shape := ⟨1, ![512]⟩
abbrev S1024x512x2x2 : Shape := ⟨4, ![1024, 512, 2, 2]⟩
abbrev S1024 : Shape := ⟨1, ![1024]⟩
abbrev S1024x1024 : Shape := ⟨2, ![1024, 1024]⟩
abbrev S32x14 : Shape := ⟨2, ![32, 14]⟩
abbrev S256x256 : Shape := ⟨2, ![256, 256]⟩
abbrev S131072x128 : Shape := ⟨2, ![131072, 128]⟩
abbrev S2x2x128x256 : Shape := ⟨4, ![2, 2, 128, 256]⟩
abbrev S512x256 : Shape := ⟨2, ![512, 256]⟩
abbrev S2x2x256x512 : Shape := ⟨4, ![2, 2, 256, 512]⟩
abbrev S4x256x512 : Shape := ⟨3, ![4, 256, 512]⟩
abbrev S2x2x512x1024 : Shape := ⟨4, ![2, 2, 512, 1024]⟩
abbrev S4x512x1024 : Shape := ⟨3, ![4, 512, 1024]⟩
abbrev S1x256 : Shape := ⟨2, ![1, 256]⟩
abbrev S1x512 : Shape := ⟨2, ![1, 512]⟩
abbrev S1x1024 : Shape := ⟨2, ![1, 1024]⟩
abbrev S8x128 : Shape := ⟨2, ![8, 128]⟩
abbrev S16384x128 : Shape := ⟨2, ![16384, 128]⟩
abbrev S256x2x2x2x2x2x2x128 : Shape := ⟨8, ![256, 2, 2, 2, 2, 2, 2, 128]⟩
abbrev S256x2x1x1x2x1x1x128 : Shape := ⟨8, ![256, 2, 1, 1, 2, 1, 1, 128]⟩
abbrev S256x2x2x128 : Shape := ⟨4, ![256, 2, 2, 128]⟩
abbrev S1024x128 : Shape := ⟨2, ![1024, 128]⟩
abbrev S1024x512 : Shape := ⟨2, ![1024, 512]⟩
abbrev S1024x256 : Shape := ⟨2, ![1024, 256]⟩
abbrev S1024x1 : Shape := ⟨2, ![1024, 1]⟩
abbrev S1x256x512 : Shape := ⟨3, ![1, 256, 512]⟩
abbrev S256x512 : Shape := ⟨2, ![256, 512]⟩
abbrev S256x2x2x512 : Shape := ⟨4, ![256, 2, 2, 512]⟩
abbrev S256x1x1x512 : Shape := ⟨4, ![256, 1, 1, 512]⟩
abbrev S1x512x1024 : Shape := ⟨3, ![1, 512, 1024]⟩
abbrev S512x1024 : Shape := ⟨2, ![512, 1024]⟩
abbrev S256x1024 : Shape := ⟨2, ![256, 1024]⟩
abbrev S256x1 : Shape := ⟨2, ![256, 1]⟩
abbrev S128x1024 : Shape := ⟨2, ![128, 1024]⟩
abbrev S1x128 : Shape := ⟨2, ![1, 128]⟩
abbrev S32x32 : Shape := ⟨2, ![32, 32]⟩
abbrev S1x14 : Shape := ⟨2, ![1, 14]⟩
abbrev S32 : Shape := ⟨1, ![32]⟩
abbrev S32x1 : Shape := ⟨2, ![32, 1]⟩
abbrev S14 : Shape := ⟨1, ![14]⟩

abbrev nBuf : Space → Nat
  | .hbm => 40
  | .vmem => 22
  | .smem => 0
  | _ => 0

abbrev bufTy : (tb : Table) → Fin (tcTables nBuf tb) → BufTy
  | .hbm, ⟨0, _⟩ => ⟨S32x64x8x8x128, .f32⟩
  | .hbm, ⟨1, _⟩ => ⟨S_, .i1⟩
  | .hbm, ⟨2, _⟩ => ⟨S256x128x2x2, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S512x256x2x2, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1024x512x2x2, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S32x14, .f32⟩
  | .hbm, ⟨17, _⟩ => ⟨S256x256, .f32⟩
  | .hbm, ⟨18, _⟩ => ⟨S131072x128, .f32⟩
  | .hbm, ⟨19, _⟩ => ⟨S2x2x128x256, .f32⟩
  | .hbm, ⟨20, _⟩ => ⟨S512x256, .f32⟩
  | .hbm, ⟨21, _⟩ => ⟨S2x2x256x512, .f32⟩
  | .hbm, ⟨22, _⟩ => ⟨S4x256x512, .f32⟩
  | .hbm, ⟨23, _⟩ => ⟨S2x2x512x1024, .f32⟩
  | .hbm, ⟨24, _⟩ => ⟨S4x512x1024, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S8x128, .f32⟩
  | .hbm, ⟨36, _⟩ => ⟨S32x32, .f32⟩
  | .hbm, ⟨37, _⟩ => ⟨S32x14, .f32⟩
  | .hbm, ⟨38, _⟩ => ⟨S1x14, .i32⟩
  | .hbm, ⟨39, _⟩ => ⟨S14, .i32⟩
  | .local _ .vmem, ⟨0, _⟩ => ⟨S16384x128, .f32⟩
  | .local _ .vmem, ⟨1, _⟩ => ⟨S16384x128, .f32⟩
  | .local _ .vmem, ⟨2, _⟩ => ⟨S512x256, .f32⟩
  | .local _ .vmem, ⟨3, _⟩ => ⟨S4x256x512, .f32⟩
  | .local _ .vmem, ⟨4, _⟩ => ⟨S4x512x1024, .f32⟩
  | .local _ .vmem, ⟨5, _⟩ => ⟨S1024x1024, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x256, .f32⟩
  | .local _ .vmem, ⟨17, _⟩ => ⟨S8x128, .f32⟩
  | .local _ .vmem, ⟨18, _⟩ => ⟨S32x32, .f32⟩
  | .local _ .vmem, ⟨19, _⟩ => ⟨S32x14, .f32⟩
  | .local _ .vmem, ⟨20, _⟩ => ⟨S32x14, .f32⟩
  | .local _ .vmem, ⟨21, _⟩ => ⟨S1x14, .i32⟩
  | _, _ => ⟨S32x64x8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc1_sem0_0 : DmaSem sig := 18
abbrev cc1_sem1_0 : DmaSem sig := 19
abbrev cc1_sem2_0 : DmaSem sig := 20
abbrev cc1_sem3_0 : DmaSem sig := 21

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v322 : Index := Scalar.indexCast arg0
  let c0_118 : Index := 0#32
  ![v322.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev grid1 : Pipeline.Grid := .none

abbrev stage1_0 : Fin 1 → Memref sig .tc .vmem S32x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x14 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x14 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x14 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S32x64x8x8x128 : Shape := ⟨5, ![32, 64, 8, 8, 128]⟩
abbrev S_ : Shape := ⟨0, ![]⟩
abbrev S256x128x2x2 : Shape := ⟨4, ![256, 128, 2, 2]⟩
abbrev S256 : Shape := ⟨1, ![256]⟩
abbrev S512x256x2x2 : Shape := ⟨4, ![512, 256, 2, 2]⟩
abbrev S512 : Shape := ⟨1, ![512]⟩
abbrev S1024x512x2x2 : Shape := ⟨4, ![1024, 512, 2, 2]⟩
abbrev S1024 : Shape := ⟨1, ![1024]⟩
abbrev S1024x1024 : Shape := ⟨2, ![1024, 1024]⟩
abbrev S32x14 : Shape := ⟨2, ![32, 14]⟩
abbrev S32x64 : Shape := ⟨2, ![32, 64]⟩
abbrev S2048x8x8x128 : Shape := ⟨4, ![2048, 8, 8, 128]⟩
abbrev S2048x4x2x4x2x128 : Shape := ⟨6, ![2048, 4, 2, 4, 2, 128]⟩
abbrev S2048x4x4x256 : Shape := ⟨4, ![2048, 4, 4, 256]⟩
abbrev S1x1x1x256 : Shape := ⟨4, ![1, 1, 1, 256]⟩
abbrev S2048x4x4 : Shape := ⟨3, ![2048, 4, 4]⟩
abbrev S2048x4x4x1 : Shape := ⟨4, ![2048, 4, 4, 1]⟩
abbrev S2048x2x2x2x2x256 : Shape := ⟨6, ![2048, 2, 2, 2, 2, 256]⟩
abbrev S2048x2x2x512 : Shape := ⟨4, ![2048, 2, 2, 512]⟩
abbrev S1x1x1x512 : Shape := ⟨4, ![1, 1, 1, 512]⟩
abbrev S2048x2x2 : Shape := ⟨3, ![2048, 2, 2]⟩
abbrev S2048x2x2x1 : Shape := ⟨4, ![2048, 2, 2, 1]⟩
abbrev S2048x1x2x1x2x512 : Shape := ⟨6, ![2048, 1, 2, 1, 2, 512]⟩
abbrev S2048x1x1x1024 : Shape := ⟨4, ![2048, 1, 1, 1024]⟩
abbrev S1x1x1x1024 : Shape := ⟨4, ![1, 1, 1, 1024]⟩
abbrev S2048x1x1 : Shape := ⟨3, ![2048, 1, 1]⟩
abbrev S2048x1x1x1 : Shape := ⟨4, ![2048, 1, 1, 1]⟩
abbrev S32x64x1024 : Shape := ⟨3, ![32, 64, 1024]⟩
abbrev S1x1x1024 : Shape := ⟨3, ![1, 1, 1024]⟩
abbrev S32x1024x32 : Shape := ⟨3, ![32, 1024, 32]⟩
abbrev S32x32x1024 : Shape := ⟨3, ![32, 32, 1024]⟩
abbrev S32x32 : Shape := ⟨2, ![32, 32]⟩
abbrev S32x3 : Shape := ⟨2, ![32, 3]⟩
abbrev S32x2 : Shape := ⟨2, ![32, 2]⟩
abbrev S32 : Shape := ⟨1, ![32]⟩
abbrev S32x1 : Shape := ⟨2, ![32, 1]⟩
abbrev S32x2x1 : Shape := ⟨3, ![32, 2, 1]⟩
abbrev S32x2x2 : Shape := ⟨3, ![32, 2, 2]⟩
abbrev S14 : Shape := ⟨1, ![14]⟩

abbrev nBuf : Space → Nat
  | .hbm => 260
  | .vmem => 0
  | .smem => 0
  | _ => 0

abbrev hbmTy0_0 (i : Nat) : BufTy := match i % 128 with
  | 0 => ⟨S32x64x8x8x128, .f32⟩
  | 1 => ⟨S_, .i1⟩
  | 2 => ⟨S256x128x2x2, .f32⟩
  | 3 => ⟨S256, .f32⟩
  | 4 => ⟨S256, .f32⟩
  | 5 => ⟨S256, .f32⟩
  | 6 => ⟨S512x256x2x2, .f32⟩
  | 7 => ⟨S512, .f32⟩
  | 8 => ⟨S512, .f32⟩
  | 9 => ⟨S512, .f32⟩
  | 10 => ⟨S1024x512x2x2, .f32⟩
  | 11 => ⟨S1024, .f32⟩
  | 12 => ⟨S1024, .f32⟩
  | 13 => ⟨S1024, .f32⟩
  | 14 => ⟨S1024x1024, .f32⟩
  | 15 => ⟨S1024, .f32⟩
  | 16 => ⟨S32x14, .f32⟩
  | 17 => ⟨S32x64, .f32⟩
  | 18 => ⟨S32x64, .f32⟩
  | 19 => ⟨S2048x8x8x128, .f32⟩
  | 20 => ⟨S2048x4x2x4x2x128, .f32⟩
  | 21 => ⟨S2048x4x4x256, .f32⟩
  | 22 => ⟨S1x1x1x256, .f32⟩
  | 23 => ⟨S2048x4x4x256, .f32⟩
  | 24 => ⟨S2048x4x4x256, .f32⟩
  | 25 => ⟨S_, .f32⟩
  | 26 => ⟨S2048x4x4, .f32⟩
  | 27 => ⟨S2048x4x4x1, .f32⟩
  | 28 => ⟨S_, .f32⟩
  | 29 => ⟨S2048x4x4x1, .f32⟩
  | 30 => ⟨S2048x4x4x1, .f32⟩
  | 31 => ⟨S_, .i32⟩
  | 32 => ⟨S_, .f32⟩
  | 33 => ⟨S2048x4x4, .f32⟩
  | 34 => ⟨S2048x4x4x1, .f32⟩
  | 35 => ⟨S_, .f32⟩
  | 36 => ⟨S2048x4x4x1, .f32⟩
  | 37 => ⟨S2048x4x4x1, .f32⟩
  | 38 => ⟨S2048x4x4x256, .f32⟩
  | 39 => ⟨S2048x4x4x256, .f32⟩
  | 40 => ⟨S2048x4x4x256, .f32⟩
  | 41 => ⟨S_, .f32⟩
  | 42 => ⟨S_, .f32⟩
  | 43 => ⟨S_, .f32⟩
  | 44 => ⟨S_, .f32⟩
  | 45 => ⟨S2048x4x4, .f32⟩
  | 46 => ⟨S2048x4x4x1, .f32⟩
  | 47 => ⟨S2048x4x4x1, .f32⟩
  | 48 => ⟨S2048x4x4x1, .f32⟩
  | 49 => ⟨S_, .f32⟩
  | 50 => ⟨S_, .i1⟩
  | 51 => ⟨S_, .f32⟩
  | 52 => ⟨S_, .f32⟩
  | 53 => ⟨S2048x4x4x1, .f32⟩
  | 54 => ⟨S2048x4x4x1, .f32⟩
  | 55 => ⟨S2048x4x4x256, .f32⟩
  | 56 => ⟨S2048x4x4x256, .f32⟩
  | 57 => ⟨S_, .f32⟩
  | 58 => ⟨S2048x4x4x1, .f32⟩
  | 59 => ⟨S2048x4x4x1, .f32⟩
  | 60 => ⟨S2048x4x4x1, .f32⟩
  | 61 => ⟨S2048x4x4x256, .f32⟩
  | 62 => ⟨S2048x4x4x256, .f32⟩
  | 63 => ⟨S1x1x1x256, .f32⟩
  | 64 => ⟨S2048x4x4x256, .f32⟩
  | 65 => ⟨S2048x4x4x256, .f32⟩
  | 66 => ⟨S1x1x1x256, .f32⟩
  | 67 => ⟨S2048x4x4x256, .f32⟩
  | 68 => ⟨S2048x4x4x256, .f32⟩
  | 69 => ⟨S_, .f32⟩
  | 70 => ⟨S2048x4x4x256, .f32⟩
  | 71 => ⟨S2048x4x4x256, .f32⟩
  | 72 => ⟨S2048x4x4x256, .f32⟩
  | 73 => ⟨S_, .f32⟩
  | 74 => ⟨S2048x4x4x256, .f32⟩
  | 75 => ⟨S2048x4x4x256, .f32⟩
  | 76 => ⟨S2048x4x4x256, .f32⟩
  | 77 => ⟨S2048x4x4x256, .f32⟩
  | 78 => ⟨S2048x2x2x2x2x256, .f32⟩
  | 79 => ⟨S2048x2x2x512, .f32⟩
  | 80 => ⟨S1x1x1x512, .f32⟩
  | 81 => ⟨S2048x2x2x512, .f32⟩
  | 82 => ⟨S2048x2x2x512, .f32⟩
  | 83 => ⟨S_, .f32⟩
  | 84 => ⟨S2048x2x2, .f32⟩
  | 85 => ⟨S2048x2x2x1, .f32⟩
  | 86 => ⟨S_, .f32⟩
  | 87 => ⟨S2048x2x2x1, .f32⟩
  | 88 => ⟨S2048x2x2x1, .f32⟩
  | 89 => ⟨S_, .i32⟩
  | 90 => ⟨S_, .f32⟩
  | 91 => ⟨S2048x2x2, .f32⟩
  | 92 => ⟨S2048x2x2x1, .f32⟩
  | 93 => ⟨S_, .f32⟩
  | 94 => ⟨S2048x2x2x1, .f32⟩
  | 95 => ⟨S2048x2x2x1, .f32⟩
  | 96 => ⟨S2048x2x2x512, .f32⟩
  | 97 => ⟨S2048x2x2x512, .f32⟩
  | 98 => ⟨S2048x2x2x512, .f32⟩
  | 99 => ⟨S_, .f32⟩
  | 100 => ⟨S_, .f32⟩
  | 101 => ⟨S_, .f32⟩
  | 102 => ⟨S_, .f32⟩
  | 103 => ⟨S2048x2x2, .f32⟩
  | 104 => ⟨S2048x2x2x1, .f32⟩
  | 105 => ⟨S2048x2x2x1, .f32⟩
  | 106 => ⟨S2048x2x2x1, .f32⟩
  | 107 => ⟨S_, .f32⟩
  | 108 => ⟨S_, .i1⟩
  | 109 => ⟨S_, .f32⟩
  | 110 => ⟨S_, .f32⟩
  | 111 => ⟨S2048x2x2x1, .f32⟩
  | 112 => ⟨S2048x2x2x1, .f32⟩
  | 113 => ⟨S2048x2x2x512, .f32⟩
  | 114 => ⟨S2048x2x2x512, .f32⟩
  | 115 => ⟨S_, .f32⟩
  | 116 => ⟨S2048x2x2x1, .f32⟩
  | 117 => ⟨S2048x2x2x1, .f32⟩
  | 118 => ⟨S2048x2x2x1, .f32⟩
  | 119 => ⟨S2048x2x2x512, .f32⟩
  | 120 => ⟨S2048x2x2x512, .f32⟩
  | 121 => ⟨S1x1x1x512, .f32⟩
  | 122 => ⟨S2048x2x2x512, .f32⟩
  | 123 => ⟨S2048x2x2x512, .f32⟩
  | 124 => ⟨S1x1x1x512, .f32⟩
  | 125 => ⟨S2048x2x2x512, .f32⟩
  | 126 => ⟨S2048x2x2x512, .f32⟩
  | 127 => ⟨S_, .f32⟩
  | _ => ⟨S32x64x8x8x128, .f32⟩

abbrev hbmTy0_1 (i : Nat) : BufTy := match i % 128 with
  | 0 => ⟨S2048x2x2x512, .f32⟩
  | 1 => ⟨S2048x2x2x512, .f32⟩
  | 2 => ⟨S2048x2x2x512, .f32⟩
  | 3 => ⟨S_, .f32⟩
  | 4 => ⟨S2048x2x2x512, .f32⟩
  | 5 => ⟨S2048x2x2x512, .f32⟩
  | 6 => ⟨S2048x2x2x512, .f32⟩
  | 7 => ⟨S2048x2x2x512, .f32⟩
  | 8 => ⟨S2048x1x2x1x2x512, .f32⟩
  | 9 => ⟨S2048x1x1x1024, .f32⟩
  | 10 => ⟨S1x1x1x1024, .f32⟩
  | 11 => ⟨S2048x1x1x1024, .f32⟩
  | 12 => ⟨S2048x1x1x1024, .f32⟩
  | 13 => ⟨S_, .f32⟩
  | 14 => ⟨S2048x1x1, .f32⟩
  | 15 => ⟨S2048x1x1x1, .f32⟩
  | 16 => ⟨S_, .f32⟩
  | 17 => ⟨S2048x1x1x1, .f32⟩
  | 18 => ⟨S2048x1x1x1, .f32⟩
  | 19 => ⟨S_, .i32⟩
  | 20 => ⟨S_, .f32⟩
  | 21 => ⟨S2048x1x1, .f32⟩
  | 22 => ⟨S2048x1x1x1, .f32⟩
  | 23 => ⟨S_, .f32⟩
  | 24 => ⟨S2048x1x1x1, .f32⟩
  | 25 => ⟨S2048x1x1x1, .f32⟩
  | 26 => ⟨S2048x1x1x1024, .f32⟩
  | 27 => ⟨S2048x1x1x1024, .f32⟩
  | 28 => ⟨S2048x1x1x1024, .f32⟩
  | 29 => ⟨S_, .f32⟩
  | 30 => ⟨S_, .f32⟩
  | 31 => ⟨S_, .f32⟩
  | 32 => ⟨S_, .f32⟩
  | 33 => ⟨S2048x1x1, .f32⟩
  | 34 => ⟨S2048x1x1x1, .f32⟩
  | 35 => ⟨S2048x1x1x1, .f32⟩
  | 36 => ⟨S2048x1x1x1, .f32⟩
  | 37 => ⟨S_, .f32⟩
  | 38 => ⟨S_, .i1⟩
  | 39 => ⟨S_, .f32⟩
  | 40 => ⟨S_, .f32⟩
  | 41 => ⟨S2048x1x1x1, .f32⟩
  | 42 => ⟨S2048x1x1x1, .f32⟩
  | 43 => ⟨S2048x1x1x1024, .f32⟩
  | 44 => ⟨S2048x1x1x1024, .f32⟩
  | 45 => ⟨S_, .f32⟩
  | 46 => ⟨S2048x1x1x1, .f32⟩
  | 47 => ⟨S2048x1x1x1, .f32⟩
  | 48 => ⟨S2048x1x1x1, .f32⟩
  | 49 => ⟨S2048x1x1x1024, .f32⟩
  | 50 => ⟨S2048x1x1x1024, .f32⟩
  | 51 => ⟨S1x1x1x1024, .f32⟩
  | 52 => ⟨S2048x1x1x1024, .f32⟩
  | 53 => ⟨S2048x1x1x1024, .f32⟩
  | 54 => ⟨S1x1x1x1024, .f32⟩
  | 55 => ⟨S2048x1x1x1024, .f32⟩
  | 56 => ⟨S2048x1x1x1024, .f32⟩
  | 57 => ⟨S_, .f32⟩
  | 58 => ⟨S2048x1x1x1024, .f32⟩
  | 59 => ⟨S2048x1x1x1024, .f32⟩
  | 60 => ⟨S2048x1x1x1024, .f32⟩
  | 61 => ⟨S_, .f32⟩
  | 62 => ⟨S2048x1x1x1024, .f32⟩
  | 63 => ⟨S2048x1x1x1024, .f32⟩
  | 64 => ⟨S2048x1x1x1024, .f32⟩
  | 65 => ⟨S2048x1x1x1024, .f32⟩
  | 66 => ⟨S32x64x1024, .f32⟩
  | 67 => ⟨S32x64x1024, .f32⟩
  | 68 => ⟨S1x1x1024, .f32⟩
  | 69 => ⟨S32x64x1024, .f32⟩
  | 70 => ⟨S32x64x1024, .f32⟩
  | 71 => ⟨S32x1024x32, .f32⟩
  | 72 => ⟨S32x32x1024, .f32⟩
  | 73 => ⟨S32x1024x32, .f32⟩
  | 74 => ⟨S32x32x1024, .f32⟩
  | 75 => ⟨S32x32x1024, .f32⟩
  | 76 => ⟨S32x32x1024, .f32⟩
  | 77 => ⟨S32x32x1024, .f32⟩
  | 78 => ⟨S32x32x1024, .f32⟩
  | 79 => ⟨S_, .f32⟩
  | 80 => ⟨S32x32, .f32⟩
  | 81 => ⟨S_, .f32⟩
  | 82 => ⟨S32x32, .f32⟩
  | 83 => ⟨S32x32, .f32⟩
  | 84 => ⟨S32x14, .f32⟩
  | 85 => ⟨S32x3, .f32⟩
  | 86 => ⟨S32x3, .i32⟩
  | 87 => ⟨S32x2, .f32⟩
  | 88 => ⟨S_, .f32⟩
  | 89 => ⟨S32, .f32⟩
  | 90 => ⟨S_, .f32⟩
  | 91 => ⟨S32, .f32⟩
  | 92 => ⟨S32, .f32⟩
  | 93 => ⟨S32x1, .f32⟩
  | 94 => ⟨S32x2, .f32⟩
  | 95 => ⟨S32x2, .f32⟩
  | 96 => ⟨S32x2, .f32⟩
  | 97 => ⟨S_, .f32⟩
  | 98 => ⟨S32, .f32⟩
  | 99 => ⟨S32x1, .f32⟩
  | 100 => ⟨S32x2, .f32⟩
  | 101 => ⟨S32x2, .f32⟩
  | 102 => ⟨S_, .f32⟩
  | 103 => ⟨S32x14, .f32⟩
  | 104 => ⟨S32, .i32⟩
  | 105 => ⟨S32x1, .i32⟩
  | 106 => ⟨S32x2, .i32⟩
  | 107 => ⟨S_, .i32⟩
  | 108 => ⟨S32x1, .i32⟩
  | 109 => ⟨S32x1, .i1⟩
  | 110 => ⟨S_, .i32⟩
  | 111 => ⟨S32x1, .i32⟩
  | 112 => ⟨S32x1, .i32⟩
  | 113 => ⟨S32x1, .i32⟩
  | 114 => ⟨S_, .i32⟩
  | 115 => ⟨S32x2, .i32⟩
  | 116 => ⟨S32x2, .i1⟩
  | 117 => ⟨S_, .i32⟩
  | 118 => ⟨S32x2, .i32⟩
  | 119 => ⟨S32x2, .i32⟩
  | 120 => ⟨S32x2, .i32⟩
  | 121 => ⟨S32x2, .i32⟩
  | 122 => ⟨S32x2x1, .i32⟩
  | 123 => ⟨S32x2x1, .i32⟩
  | 124 => ⟨S32x2x2, .i32⟩
  | 125 => ⟨S32x14, .f32⟩
  | 126 => ⟨S_, .f32⟩
  | 127 => ⟨S32x14, .f32⟩
  | _ => ⟨S32x64x8x8x128, .f32⟩

abbrev hbmTy0_2 (i : Nat) : BufTy := match i % 128 with
  | 0 => ⟨S32x14, .i1⟩
  | 1 => ⟨S32x14, .i32⟩
  | 2 => ⟨S_, .i32⟩
  | 3 => ⟨S14, .i32⟩
  | _ => ⟨S32x64x8x8x128, .f32⟩

abbrev hbmTy (i : Nat) : BufTy := match i / 128 with
  | 0 => hbmTy0_0 i
  | 1 => hbmTy0_1 i
  | 2 => hbmTy0_2 i
  | _ => ⟨S32x64x8x8x128, .f32⟩

abbrev bufTy : (tb : Table) → Fin (tcTables nBuf tb) → BufTy
  | .hbm, ⟨i, _⟩ => hbmTy i
  | _, _ => ⟨S32x64x8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_cst_3 : Ref sig .tc := ⟨.hbm, 49, rfl⟩
abbrev main_call0_v13 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_4 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_6 : Ref sig .tc := ⟨.hbm, 83, rfl⟩
abbrev main_v36 : Ref sig .tc := ⟨.hbm, 84, rfl⟩
abbrev main_v37 : Ref sig .tc := ⟨.hbm, 85, rfl⟩
abbrev main_cst_7 : Ref sig .tc := ⟨.hbm, 86, rfl⟩
abbrev main_v38 : Ref sig .tc := ⟨.hbm, 87, rfl⟩
abbrev main_v39 : Ref sig .tc := ⟨.hbm, 88, rfl⟩
abbrev main_c_8 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_cst_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_cst_1 : Ref sig .tc := ⟨.hbm, 100, rfl⟩
abbrev main_call1_v8 : Ref sig .tc := ⟨.hbm, 101, rfl⟩
abbrev main_call1_cst_2 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_v12 : Ref sig .tc := ⟨.hbm, 106, rfl⟩
abbrev main_call1_cst_3 : Ref sig .tc := ⟨.hbm, 107, rfl⟩
abbrev main_call1_v13 : Ref sig .tc := ⟨.hbm, 108, rfl⟩
abbrev main_call1_cst_4 : Ref sig .tc := ⟨.hbm, 109, rfl⟩
abbrev main_call1_call0_v0 : Ref sig .tc := ⟨.hbm, 110, rfl⟩
abbrev main_call1_call0_v1 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_9 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_cst_10 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_cst_11 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_cst_12 : Ref sig .tc := ⟨.hbm, 141, rfl⟩
abbrev main_v66 : Ref sig .tc := ⟨.hbm, 142, rfl⟩
abbrev main_v67 : Ref sig .tc := ⟨.hbm, 143, rfl⟩
abbrev main_cst_13 : Ref sig .tc := ⟨.hbm, 144, rfl⟩
abbrev main_v68 : Ref sig .tc := ⟨.hbm, 145, rfl⟩
abbrev main_v69 : Ref sig .tc := ⟨.hbm, 146, rfl⟩
abbrev main_c_14 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_cst_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_cst_1 : Ref sig .tc := ⟨.hbm, 158, rfl⟩
abbrev main_call2_v8 : Ref sig .tc := ⟨.hbm, 159, rfl⟩
abbrev main_call2_cst_2 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_v12 : Ref sig .tc := ⟨.hbm, 164, rfl⟩
abbrev main_call2_cst_3 : Ref sig .tc := ⟨.hbm, 165, rfl⟩
abbrev main_call2_v13 : Ref sig .tc := ⟨.hbm, 166, rfl⟩
abbrev main_call2_cst_4 : Ref sig .tc := ⟨.hbm, 167, rfl⟩
abbrev main_call2_call0_v0 : Ref sig .tc := ⟨.hbm, 168, rfl⟩
abbrev main_call2_call0_v1 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_cst_15 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_cst_16 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_cst_17 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_cst_18 : Ref sig .tc := ⟨.hbm, 207, rfl⟩
abbrev main_v104 : Ref sig .tc := ⟨.hbm, 208, rfl⟩
abbrev main_cst_19 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_values : Ref sig .tc := ⟨.hbm, 213, rfl⟩
abbrev main_indices : Ref sig .tc := ⟨.hbm, 214, rfl⟩
abbrev main_v108 : Ref sig .tc := ⟨.hbm, 215, rfl⟩
abbrev main_cst_20 : Ref sig .tc := ⟨.hbm, 216, rfl⟩
abbrev main_v109 : Ref sig .tc := ⟨.hbm, 217, rfl⟩
abbrev main_cst_21 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_cst_22 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_cst_23 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_c_24 : Ref sig .tc := ⟨.hbm, 235, rfl⟩
abbrev main_v124 : Ref sig .tc := ⟨.hbm, 236, rfl⟩
abbrev main_v125 : Ref sig .tc := ⟨.hbm, 237, rfl⟩
abbrev main_c_25 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_c_26 : Ref sig .tc := ⟨.hbm, 242, rfl⟩
abbrev main_v129 : Ref sig .tc := ⟨.hbm, 243, rfl⟩
abbrev main_v130 : Ref sig .tc := ⟨.hbm, 244, rfl⟩
abbrev main_c_27 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_cst_28 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_c_29 : Ref sig .tc := ⟨.hbm, 258, rfl⟩
abbrev main_v142 : Ref sig .tc := ⟨.hbm, 259, rfl⟩

abbrev nD : Nat := 1
abbrev τ : Topo := Topo.v7x

variable {F : FTy → Type} [FloatOps F]
-- ==== Proof.Run.Region.lean ====
/- One kernel region among host stretches, its proof data relational: entered holding every unscoped buffer at one valuation, left holding
   every unscoped buffer at another. Stated for any program of pipelines. -/
module

public import Idealize.ShloMosaic.Lib.Pipeline.RegionArraysF
public import Idealize.ShloMosaic.Lib.Pipeline.DatRel
public import Idealize.ShloMosaic.Lib.Pipeline.ArrRel
public import Idealize.ShloMosaic.Lib.Pipeline.Frame

@[expose] public section

noncomputable section

namespace Cert.RegionRun

open Idealize.ShloMosaic Idealize.ShloMosaic.TcCoe
open Idealize.SL Idealize.SL.RA
open Idealize.SL.BI (sProp bigSep bigSep_congr)
open scoped Idealize.SL.BI
open Idealize.SL.BI.BIBase Idealize.SL.BI.Laws Idealize.SL.Sem Idealize.SL.ProofMode
open Idealize.ShloMosaic.Pipeline Idealize.ShloMosaic.Rounds

variable {nD : Nat} {τ : Topo} {sig : RefSig} {Val : EltTy → Type}
variable {U : Type} [URA U]

local notation "𝕄" => MT nD τ sig Unit Val ℕ U ℕ

variable {Λ₀ : Idealize.SL.Sem.Labels} {P : Type} [Fintype P]

/-- What rides along every item of the program: the generator register at something, and nothing owed. -/
def aside (c : Dev nD) : sProp 𝕄 :=
  iprop((∃ r, prngReg c r) ∗ ∃ Wd, owes (c : Thread nD τ) (0 : CellTallies nD τ sig Unit) Wd)

/-- The arrays of a relational region after it: at contents each of which it may hold. -/
theorem arraysAt_exists [∀ e, Nonempty (Val e)] {cfg : Cfg sig Λ₀} {c : Dev nD} (rd : RDat τ Val Unit ℕ U ℕ cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

section Seg

variable (pcs : P → PCfg sig Λ₀ Val) (a : (p : P) → (pcs p).Adm)
  (pdats : (p : P) → (c : Dev nD) → Dat τ Val Unit ℕ U ℕ (pin pcs a p) c) (ι : Unit)
  (defs₀ : Defs nD τ sig Val Λ₀) (𝒱₀ : Variants)
  (L : GSem nD τ sig → Finset Unit) (lv : GSem nD τ sig → Unit → ℕ)
  (p : P)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- Each pipeline's proof data, its marked windows held to the relation. -/
abbrev rel : (q : P) → (c : Dev nD) → RDat τ Val Unit ℕ U ℕ (pin pcs a q) c := fun q c => (pdats q c).toRRel (fg q) (Rl q c)

/-- THE REGION'S RECORD: from every unscoped buffer at `W c` to every unscoped buffer at `W' c`, where `W'` has the arrays at the only
    contents they may hold after the run (`hW'`) and agrees with `W` off the arrays (`hoff`). -/
def seg [∀ e, Nonempty (Val e)] (kit : PLaunchFacts (nD := nD) (τ := τ) pcs p) (hK : (pcs p).pre.K = 0)
    (hbody : ∀ c, (rel pcs a pdats fg Rl p c).BodyObligation defs₀ 𝒱₀ ι Set.univ)
    (howed : ∀ c t, (pdats p c).owed t = 0) (hrec : ∀ c, (pdats p c).recorded 0 = Set.univ)
    (hshare : ∀ c w, (pdats p c).share w = fullShare)
    (hΦ : ∀ c t, (pdats p c).Φ t = ΦA (pin pcs a p).spec c)
    (W W' : Dev nD → Valuation τ sig Val)
    (hW : ∀ c w, (pdats p c).A w = W c (Proc.devRef .tc (arrRef (pin pcs a p).spec w)))
    (hW' : ∀ c w A, (rel pcs a pdats fg Rl p c).ArrAt w (pin pcs a p).N A → A = W' c (Proc.devRef .tc (arrRef (pin pcs a p).spec w)))
    (hoff : ∀ c, ∀ d ∈ ucRefs τ sig \ arrRefs (τ := τ) (pcs p).spec, W' c d = W c d) :
    RDat.RegionSeg pcs a (rel pcs a pdats fg Rl) ι defs₀ 𝒱₀ L lv p where
  win := kit.to₀.win
  block_pos := kit.to₀.block_pos
  stage_whole := kit.to₀.stage_whole
  K := PEmpty
  osem k := k.elim
  ho := OwnSemFacts.none _
  hbody := hbody
  hwaits := RDat.hwaits_of_owed_zero pcs a (rel pcs a pdats fg Rl) ι L lv p howed
  pre c := iprop(StableHlo.held (c.tc : Thread nD τ) (ucRefs τ sig) (W c) ∗ aside c)
  post c := iprop(StableHlo.held (c.tc : Thread nD τ) (ucRefs τ sig) (W' c) ∗ aside c)
  X c := iprop(∃ r, prngReg c r)
  Y c := iprop(∃ r, prngReg c r)
  Z c := StableHlo.held (c.tc : Thread nD τ) (ucRefs τ sig \ arrRefs (τ := τ) (pcs p).spec) (W c)
  hentry c := by
    show _ ⊢ |={Set.univ}=> iprop((pdats p c).arrays (pdats p c).A ∗ prefHeld (pcs p).pre c (fun _ => fullShare) (a p).1
        ∗ (pdats p c).owesAt ι 0 ∗ _ ∗ _)
    rw [ownSems0_none, prefHeld_of_none _ hK, ← StableHlo.held_sub_split (c.tc : Thread nD τ) (arrRefs_sub_ucRefs (pcs p).spec kit.win.arr_unscoped) (W c) |>.symm,
      arrays_held pcs a pdats p kit c (hshare c) (pdats p c).A (W c) (hW c)]
    unfold aside
    iintro ⟨⟨⟨Ha, Hr⟩, Hp, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hr
  hin c := by
    show _ ⊢ (pdats p c).Φ 0
    rw [hΦ c 0]; unfold ΦA
    iintro ⟨Hp, -, Hr⟩
    isplitl [Hr]; · iexact Hr
    iexact Hp
  hout c := by
    show (pdats p c).Φ (Fin.last (pin pcs a p).N) ⊢ _
    rw [hΦ c, ownSems0_none]; unfold ΦA
    iintro ⟨Hr, Hp⟩
    isplitl [Hp]; · iexact Hp
    isplitr; · iempintro
    iexact Hr
  hexit c := by
    show iprop((rel pcs a pdats fg Rl p c).arraysAt (pin pcs a p).N ∗ (pdats p c).owesAt ι (Fin.last (pin pcs a p).N) ∗ _ ∗ _) ⊢ _
    iintro ⟨Ha, HO, Hp, Hr⟩
    ihave Ha := (show (rel pcs a pdats fg Rl p c).arraysAt (pin pcs a p).N
        ⊢ iprop(∃ A : (w : Fin (pin pcs a p).W) → Buf Val (((pin pcs a p).win w).arr.view.loc (c.tc : Thread nD τ)),
          ⌜∀ w, (rel pcs a pdats fg Rl p c).ArrAt w (pin pcs a p).N (A w)⌝ ∗ (pdats p c).arrays A)
      from arraysAt_exists (rel pcs a pdats fg Rl p c) (pin pcs a p).N) $$ Ha
    icases Ha with ⟨%A, %hA, Ha⟩
    imodintro
    rw [StableHlo.held_sub_split (c.tc : Thread nD τ) (arrRefs_sub_ucRefs (pcs p).spec kit.win.arr_unscoped) (W' c),
      ← arrays_held pcs a pdats p kit c (hshare c) A (W' c) (fun w => hW' c w (A w) (hA w)),
      StableHlo.held_congr (c.tc : Thread nD τ) (hoff c)]
    unfold aside
    isplitl [Ha Hr]
    · isplitl [Ha]; · iexact Ha
      iexact Hr
    isplitl [Hp]; · iexact Hp
    unfold Dat.owesAt owesWithin
    rw [howed c (Fin.last _)]
    icases HO with ⟨%Wd, -, HO⟩; iexists Wd; iexact HO

end Seg

end Cert.RegionRun

end
-- ==== Proof.Run.KernelIdealBody.lean ====
/- What one grid point of the main kernel does to its output block, and what the gate kernel stores: the bodies run once, symbolically,
   on whole staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The main kernel's row, in stages -/

/-- The whole of a buffer, for each buffer the main kernel reads whole. -/
abbrev rx : Rect S16384x128 := Rect.unit (s := S16384x128) ![0, 0] S16384x128.size inb_S16384x128_S16384x128_0_0
@[inherit_doc rx]
abbrev rw0 : Rect S512x256 := Rect.unit (s := S512x256) ![0, 0] S512x256.size inb_S512x256_S512x256_0_0
@[inherit_doc rx]
abbrev rv256 : Rect S1x256 := Rect.unit (s := S1x256) ![0, 0] S1x256.size inb_S1x256_S1x256_0_0
@[inherit_doc rx]
abbrev rv512 : Rect S1x512 := Rect.unit (s := S1x512) ![0, 0] S1x512.size inb_S1x512_S1x512_0_0
@[inherit_doc rx]
abbrev rv1024 : Rect S1x1024 := Rect.unit (s := S1x1024) ![0, 0] S1x1024.size inb_S1x1024_S1x1024_0_0
@[inherit_doc rx]
abbrev rfw : Rect S1024x1024 := Rect.unit (s := S1024x1024) ![0, 0] S1024x1024.size inb_S1024x1024_S1024x1024_0_0
@[inherit_doc rx]
abbrev rbd : Rect S256x256 := Rect.unit (s := S256x256) ![0, 0] S256x256.size inb_S256x256_S256x256_0_0
/-- The four matrices of the second convolution in their buffer. -/
abbrev rw1_0 : Rect S4x256x512 := Rect.unit (s := S4x256x512) ![0, 0, 0] S1x256x512.size inb_S4x256x512_S1x256x512_0_0_0
@[inherit_doc rw1_0]
abbrev rw1_1 : Rect S4x256x512 := Rect.unit (s := S4x256x512) ![1, 0, 0] S1x256x512.size inb_S4x256x512_S1x256x512_1_0_0
@[inherit_doc rw1_0]
abbrev rw1_2 : Rect S4x256x512 := Rect.unit (s := S4x256x512) ![2, 0, 0] S1x256x512.size inb_S4x256x512_S1x256x512_2_0_0
@[inherit_doc rw1_0]
abbrev rw1_3 : Rect S4x256x512 := Rect.unit (s := S4x256x512) ![3, 0, 0] S1x256x512.size inb_S4x256x512_S1x256x512_3_0_0
/-- The four matrices of the third convolution in their buffer. -/
abbrev rw2_0 : Rect S4x512x1024 := Rect.unit (s := S4x512x1024) ![0, 0, 0] S1x512x1024.size inb_S4x512x1024_S1x512x1024_0_0_0
@[inherit_doc rw2_0]
abbrev rw2_1 : Rect S4x512x1024 := Rect.unit (s := S4x512x1024) ![1, 0, 0] S1x512x1024.size inb_S4x512x1024_S1x512x1024_1_0_0
@[inherit_doc rw2_0]
abbrev rw2_2 : Rect S4x512x1024 := Rect.unit (s := S4x512x1024) ![2, 0, 0] S1x512x1024.size inb_S4x512x1024_S1x512x1024_2_0_0
@[inherit_doc rw2_0]
abbrev rw2_3 : Rect S4x512x1024 := Rect.unit (s := S4x512x1024) ![3, 0, 0] S1x512x1024.size inb_S4x512x1024_S1x512x1024_3_0_0

/-- The first convolution, its layer norm and gelu at the four positions of the second one's window: position (0,0), -/
def hA (x0 : Vec F S16384x128 .f32) (x1 : Vec F S512x256 .f32) (x5 x6 x7 : Vec F S1x256 .f32) : FVec F S1024x256 .f32 :=
  k0_pay12 (k0_pay4 (View.ld x6 rv256)) (k0_pay5 (View.ld x7 rv256)) (k0_pay10 (View.ld x0 rx) (View.ld x5 rv256) (View.ld x1 rw0)) (k0_pay11 (View.ld x0 rx) (View.ld x5 rv256) (View.ld x1 rw0))
/-- position (0,1), -/
def hB (x0 : Vec F S16384x128 .f32) (x1 : Vec F S512x256 .f32) (x5 x6 x7 : Vec F S1x256 .f32) : FVec F S1024x256 .f32 :=
  k0_pay15 (k0_pay13 (k0_pay2 (View.ld x0 rx)) (k0_pay3 (View.ld x5 rv256)) (k0_pay4 (View.ld x6 rv256)) (k0_pay6 (View.ld x1 rw0))) (k0_pay14 (k0_pay5 (View.ld x7 rv256)))
/-- position (1,0), -/
def hC (x0 : Vec F S16384x128 .f32) (x1 : Vec F S512x256 .f32) (x5 x6 x7 : Vec F S1x256 .f32) : FVec F S1024x256 .f32 :=
  k0_pay18 (k0_pay16 (k0_pay2 (View.ld x0 rx)) (k0_pay3 (View.ld x5 rv256)) (k0_pay4 (View.ld x6 rv256)) (k0_pay5 (View.ld x7 rv256)) (k0_pay6 (View.ld x1 rw0))) (k0_pay17 (k0_pay2 (View.ld x0 rx)) (k0_pay3 (View.ld x5 rv256)) (k0_pay4 (View.ld x6 rv256)) (k0_pay5 (View.ld x7 rv256)) (k0_pay6 (View.ld x1 rw0))) (Scalar.ofBits .f32 0x3F3504F3#32)
/-- and position (1,1), as the two factors its last product has (the half and the error function's argument). -/
def hD1 (x0 : Vec F S16384x128 .f32) (x1 : Vec F S512x256 .f32) (x5 x6 x7 : Vec F S1x256 .f32) : FVec F S1024x256 .f32 :=
  k0_pay20 (k0_pay2 (View.ld x0 rx)) (k0_pay3 (View.ld x5 rv256)) (k0_pay4 (View.ld x6 rv256)) (k0_pay5 (View.ld x7 rv256)) (k0_pay6 (View.ld x1 rw0))
@[inherit_doc hD1]
def hD2 (x0 : Vec F S16384x128 .f32) (x1 : Vec F S512x256 .f32) (x5 x6 x7 : Vec F S1x256 .f32) : FVec F S1024x256 .f32 :=
  k0_pay21 (k0_pay2 (View.ld x0 rx)) (k0_pay3 (View.ld x5 rv256)) (k0_pay4 (View.ld x6 rv256)) (k0_pay5 (View.ld x7 rv256)) (k0_pay6 (View.ld x1 rw0))

/-- The second convolution with its bias, before the layer norm, -/
def c2 (hA hB hC hD1 hD2 : FVec F S1024x256 .f32) (x2 : Vec F S4x256x512 .f32) (x8 : Vec F S1x512 .f32) : FVec F S1024x512 .f32 :=
  k0_pay23 hA hB hC hD1 hD2 (k0_pay22 (F := F)) (View.ld x2 rw1_0) (View.ld x2 rw1_1) (View.ld x2 rw1_2) (View.ld x2 rw1_3) (View.ld x8 rv512)
/-- its mean along the channels, -/
def m2 (hA hB hC hD1 hD2 : FVec F S1024x256 .f32) (x2 : Vec F S4x256x512 .f32) (x8 : Vec F S1x512 .f32) : FVec F S1024x1 .f32 :=
  k0_pay27 hA hB hC hD1 hD2 (k0_pay22 (F := F)) (View.ld x2 rw1_0) (View.ld x2 rw1_1) (View.ld x2 rw1_2) (View.ld x2 rw1_3) (View.ld x8 rv512)
/-- and the mean of its squares. -/
def s2 (hA hB hC hD1 hD2 : FVec F S1024x256 .f32) (x2 : Vec F S4x256x512 .f32) (x8 : Vec F S1x512 .f32) : FVec F S1024x1 .f32 :=
  k0_pay28 hA hB hC hD1 hD2 (k0_pay22 (F := F)) (View.ld x2 rw1_0) (View.ld x2 rw1_1) (View.ld x2 rw1_2) (View.ld x2 rw1_3) (View.ld x8 rv512)

/-- The third stage's output: the third convolution, its layer norm and gelu, one vector for each of the 256 frames of the block. -/
def h3 (v209 : FVec F S1024x512 .f32) (v219 v221 : FVec F S1024x1 .f32) (x9 x10 : Vec F S1x512 .f32) (x3 : Vec F S4x512x1024 .f32)
    (x11 x12 x13 : Vec F S1x1024 .f32) : FVec F S256x1024 .f32 :=
  k0_pay32 (k0_pay30 v209 (k0_pay24 (View.ld x9 rv512)) (k0_pay25 (View.ld x10 rv512)) v219 v221 (View.ld x3 rw2_0) (View.ld x3 rw2_1) (View.ld x3 rw2_2))
    (k0_pay31 v209 (k0_pay24 (View.ld x9 rv512)) (k0_pay25 (View.ld x10 rv512)) v219 v221) (View.ld x3 rw2_3) (View.ld x11 rv1024) (View.ld x12 rv1024) (View.ld x13 rv1024)

/-- THE ROW one grid point stores: the mean amplitudes of the block's four sequences at the 32 frequencies. -/
def row (x0 : Vec F S16384x128 .f32) (x1 : Vec F S512x256 .f32) (x2 : Vec F S4x256x512 .f32) (x3 : Vec F S4x512x1024 .f32) (x4 : Vec F S1024x1024 .f32) (x5 : Vec F S1x256 .f32) (x6 : Vec F S1x256 .f32) (x7 : Vec F S1x256 .f32) (x8 : Vec F S1x512 .f32) (x9 : Vec F S1x512 .f32) (x10 : Vec F S1x512 .f32) (x11 : Vec F S1x1024 .f32) (x12 : Vec F S1x1024 .f32) (x13 : Vec F S1x1024 .f32) (x14 : Vec F S1x1024 .f32) (x15 : Vec F S256x256 .f32) : FVec F S1x128 .f32 :=
  k0_pay1 (h3 (c2 (hA x0 x1 x5 x6 x7) (hB x0 x1 x5 x6 x7) (hC x0 x1 x5 x6 x7) (hD1 x0 x1 x5 x6 x7) (hD2 x0 x1 x5 x6 x7) x2 x8)
      (m2 (hA x0 x1 x5 x6 x7) (hB x0 x1 x5 x6 x7) (hC x0 x1 x5 x6 x7) (hD1 x0 x1 x5 x6 x7) (hD2 x0 x1 x5 x6 x7) x2 x8)
      (s2 (hA x0 x1 x5 x6 x7) (hB x0 x1 x5 x6 x7) (hC x0 x1 x5 x6 x7) (hD1 x0 x1 x5 x6 x7) (hD2 x0 x1 x5 x6 x7) x2 x8) x9 x10 x3 x11 x12 x13)
    (View.ld x4 rfw) (View.ld x14 rv1024) (View.ld x15 rbd)

/-- The rectangle a grid point stores its row at. -/
abbrev rrow (i : grid0.Coords) : Rect S8x128 := Rect.unit (s := S8x128) (k0_off1 i) S1x128.size (k0_off1_inb i)

set_option maxHeartbeats 1000000 in
/-- THE MAIN KERNEL'S BODY: on whole buffers, the inputs' at `x0` … `x15` and the output's at `d`, it leaves the inputs as they were and the
    output at `d` with the point's row overwritten by `row`. -/
theorem main_body (c : Dev nD) (i : grid0.Coords) (arg1 : Memref sig .tc .vmem S16384x128 .f32) (harg1 : arg1.IsWhole) (arg2 : Memref sig .tc .vmem S512x256 .f32) (harg2 : arg2.IsWhole) (arg3 : Memref sig .tc .vmem S4x256x512 .f32) (harg3 : arg3.IsWhole) (arg4 : Memref sig .tc .vmem S4x512x1024 .f32) (harg4 : arg4.IsWhole) (arg5 : Memref sig .tc .vmem S1024x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x256 .f32) (harg16 : arg16.IsWhole) (arg17 : Memref sig .tc .vmem S8x128 .f32) (harg17 : arg17.IsWhole)
    (x0 : Vec F S16384x128 .f32) (x1 : Vec F S512x256 .f32) (x2 : Vec F S4x256x512 .f32) (x3 : Vec F S4x512x1024 .f32) (x4 : Vec F S1024x1024 .f32) (x5 : Vec F S1x256 .f32) (x6 : Vec F S1x256 .f32) (x7 : Vec F S1x256 .f32) (x8 : Vec F S1x512 .f32) (x9 : Vec F S1x512 .f32) (x10 : Vec F S1x512 .f32) (x11 : Vec F S1x1024 .f32) (x12 : Vec F S1x1024 .f32) (x13 : Vec F S1x1024 .f32) (x14 : Vec F S1x1024 .f32) (x15 : Vec F S256x256 .f32) (d : Vec F S8x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare ((rrow i).overlay d (row x0 x1 x2 x3 x4 x5 x6 x7 x8 x9 x10 x11 x12 x13 x14 x15))) -∗ K ⟨⟩))
      ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__main_kernel_eq_skeleton]; unfold cc0__main_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr; swap; · iexact H16
  ipureintro
  funext y
  by_cases hy : y ∈ (rrow i).set
  · rw [← Rect.map_emb_univ] at hy
    obtain ⟨x, -, rfl⟩ := Finset.mem_map.mp hy
    rw [View.read_writes_cons_emb, Rect.overlay_emb]
    rfl
  · rw [View.read_writes_cons_miss _ _ _ _ _ hy, Rect.overlay_of_not_mem _ _ _ hy]
    rfl

end Cert.KernelIdeal.Hand

end
-- ==== Proof.Run.KernelIdealGate.lean ====
/- What the gate kernel stores: its body run once, symbolically, on whole staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.UnfoldOut

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The gate kernel -/

/-- The whole of each buffer the gate kernel touches. -/
abbrev ramp : Rect S32x32 := Rect.unit (s := S32x32) ![0, 0] S32x32.size inb_S32x32_S32x32_0_0
@[inherit_doc ramp]
abbrev rwg : Rect S32x14 := Rect.unit (s := S32x14) ![0, 0] S32x14.size inb_S32x14_S32x14_0_0
@[inherit_doc ramp]
abbrev rld : Rect S1x14 := Rect.unit (s := S1x14) ![0, 0] S1x14.size inb_S1x14_S1x14_0_0

/-- The gates the kernel stores, of the amplitudes `a` and the gate weights `g`, -/
def gatesOf (a : Vec F S32x32 .f32) (g : Vec F S32x14 .f32) : FVec F S32x14 .f32 :=
  k1_pay1 (k1_pay9 (View.ld a ramp) (View.ld g rwg)) (k1_pay10 (View.ld a ramp) (View.ld g rwg)) (Scalar.ofBits .f32 0x00000000#32) (k1_pay11 (View.ld a ramp) (View.ld g rwg))

/-- and the loads. -/
def loadOf (a : Vec F S32x32 .f32) (g : Vec F S32x14 .f32) : IVec S1x14 32 :=
  k1_pay2 (k1_pay9 (View.ld a ramp) (View.ld g rwg)) (k1_pay10 (View.ld a ramp) (View.ld g rwg)) (Scalar.ofBits .f32 0x00000000#32) (k1_pay11 (View.ld a ramp) (View.ld g rwg))

/-- The gates' buffer after the body (one store over the whole of it). -/
def outGates (a : Vec F S32x32 .f32) (g : Vec F S32x14 .f32) : Vec F S32x14 .f32 := View.canon [⟨rwg, gatesOf a g⟩]
/-- The loads' buffer after the body. -/
def outLoad (a : Vec F S32x32 .f32) (g : Vec F S32x14 .f32) : Vec F S1x14 .i32 := View.canon [⟨rld, loadOf a g⟩]

/-- The gates' one store covers its buffer, -/
theorem cover_gates (p0 : Vec F S32x14 .f32) (y : S32x14.Idx) :
    ∃ pc ∈ ([⟨rwg, p0⟩] : List (View.Piece (Elt F) S32x14 .f32)), y ∈ pc.1.set :=
  View.cover_of_tiled [⟨rwg, p0⟩] S32x14.size (by rfl) y

/-- and so does the loads'. -/
theorem cover_load (p0 : Vec F S1x14 .i32) (y : S1x14.Idx) :
    ∃ pc ∈ ([⟨rld, p0⟩] : List (View.Piece (Elt F) S1x14 .i32)), y ∈ pc.1.set :=
  View.cover_of_tiled [⟨rld, p0⟩] S1x14.size (by rfl) y

set_option maxHeartbeats 1000000 in
/-- THE GATE KERNEL'S BODY: on whole buffers, the inputs' at `x0` (amplitudes) and `x1` (weights), it leaves the inputs as they were and the
    outputs at `outGates` and `outLoad` of them. -/
theorem gate_body (c : Dev nD) (E : Set ℕ) (arg0 : Memref sig .tc .vmem S32x32 .f32) (harg0 : arg0.IsWhole) (arg1 : Memref sig .tc .vmem S32x14 .f32) (harg1 : arg1.IsWhole) (arg2 : Memref sig .tc .vmem S32x14 .f32) (harg2 : arg2.IsWhole) (arg3 : Memref sig .tc .vmem S1x14 .i32) (harg3 : arg3.IsWhole)
    (x0 : Vec F S32x32 .f32) (x1 : Vec F S32x14 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (outGates x0 x1) ∗ owns (c : Thread nD τ) arg3 fullShare (outLoad x0 x1)) -∗ K ⟨⟩))
      ⊢ wp frame (wpE (defs₀ (F := F)) Variants.none c none) E (cc1__gate_kernel arg0 harg0 arg1 harg1 arg2 harg2 arg3 harg3) K := by
  simp only [cc1__gate_kernel_eq_skeleton]; unfold cc1__gate_kernel_skel
  simp only [k1_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_gates _)).trans ?_
    rfl
  iexists _; isplitr
  swap; · iexact H3
  ipureintro
  refine (View.read_writes_eq_canon _ _ _ (cover_load _)).trans ?_
  rfl

end Cert.KernelIdeal.Hand

end
-- ==== Proof.Run.KernelIdealRegions.lean ====
/- The kernel's two regions between its host stretches: the proof data of each, what each leaves, and the run of the whole program, with every
   buffer that outlives it named at the end. -/
module

public import proofs.«01_k».proof.Proof.Gen.KernelIdeal.Regions
public import proofs.«01_k».proof.Proof.Run.Region
public import proofs.«01_k».proof.Proof.Run.KernelIdealBody
public import proofs.«01_k».proof.Proof.Run.KernelIdealGate

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (W : Dev nD → Valuation τ sig (Elt F))

/-! ## What the windows hold -/

/-- Window `w` of the main kernel at point `t`: its block, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The same of the gate kernel. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The row that the main kernel stores at point `t`. -/
def rowAt (c : Dev nD) (t : Fin cfg0.N) : FVec F S1x128 .f32 :=
  row (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t) (iblk0 W c 11 t) (iblk0 W c 12 t) (iblk0 W c 13 t) (iblk0 W c 14 t) (iblk0 W c 15 t)

/-- An index of the row, by its lane. -/
def lane (k : Fin 128) : S1x128.Idx := fun a => match a with | ⟨0, _⟩ => ⟨0, Nat.one_pos⟩ | ⟨1, _⟩ => k

/-- The array of the rows. -/
def rows (c : Dev nD) : Vec F S8x128 .f32 := fun y => rowAt W c (Fin.cast N_0.symm (y 0)) (lane (y 1))

/-- Between points: the rows up to point `t`'s are written. -/
def upTo (c : Dev nD) (t : Fin cfg0.N) (X : Vec F S8x128 .f32) : Prop := ∀ y : S8x128.Idx, (y 0).val ≤ t.val → X y = rows W c y

/-! ## The proof data -/

/-- The main kernel's windows: what each holds after a point's body, which is what it held before. -/
def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => iblk0 W c 7 t
    | ⟨8, _⟩ => iblk0 W c 8 t
    | ⟨9, _⟩ => iblk0 W c 9 t
    | ⟨10, _⟩ => iblk0 W c 10 t
    | ⟨11, _⟩ => iblk0 W c 11 t
    | ⟨12, _⟩ => iblk0 W c 12 t
    | ⟨13, _⟩ => iblk0 W c 13 t
    | ⟨14, _⟩ => iblk0 W c 14 t
    | ⟨15, _⟩ => iblk0 W c 15 t
    | ⟨16, _⟩ => rows W c
    | ⟨_ + 17, h⟩ => absurd h (Nat.not_lt.2 (Nat.le_add_left _ _))
  Φ _ := Pipeline.ΦA spec0 c
  q _ := fullShare
  owed _ := 0

/-- The gate kernel's windows: the inputs stay, the outputs hold the gates and the loads. -/
def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => outGates (iblk1 W c 0 t) (iblk1 W c 1 t)
    | ⟨3, _⟩ => outLoad (iblk1 W c 0 t) (iblk1 W c 1 t)
  Φ _ := Pipeline.ΦA spec1 c
  q _ := fullShare
  owed _ := 0

/-- A window starts from what its array holds. -/
theorem A_eq0 (c : Dev nD) (w : Fin cfg0.W) : (dat0 W c).A w = W c (Pipeline.arrRef spec0 w) := by dsimp only [dat0]
@[inherit_doc A_eq0]
theorem A_eq1 (c : Dev nD) (w : Fin cfg1.W) : (dat1 W c).A w = W c (Pipeline.arrRef spec1 w) := by dsimp only [dat1]

/-- What a window of the main kernel holds after the body. -/
theorem after0_0 (c : Dev nD) (t : Fin cfg0.N) : (dat0 W c).after 0 t = iblk0 W c 0 t := by dsimp only [dat0]
@[inherit_doc after0_0]
theorem after0_1 (c : Dev nD) (t : Fin cfg0.N) : (dat0 W c).after 1 t = iblk0 W c 1 t := by dsimp only [dat0]
@[inherit_doc after0_0]
theorem after0_2 (c : Dev nD) (t : Fin cfg0.N) : (dat0 W c).after 2 t = iblk0 W c 2 t := by dsimp only [dat0]
@[inherit_doc after0_0]
theorem after0_3 (c : Dev nD) (t : Fin cfg0.N) : (dat0 W c).after 3 t = iblk0 W c 3 t := by dsimp only [dat0]
@[inherit_doc after0_0]
theorem after0_4 (c : Dev nD) (t : Fin cfg0.N) : (dat0 W c).after 4 t = iblk0 W c 4 t := by dsimp only [dat0]
@[inherit_doc after0_0]
theorem after0_5 (c : Dev nD) (t : Fin cfg0.N) : (dat0 W c).after 5 t = iblk0 W c 5 t := by dsimp only [dat0]
@[inherit_doc after0_0]
theorem after0_6 (c : Dev nD) (t : Fin cfg0.N) : (dat0 W c).after 6 t = iblk0 W c 6 t := by dsimp only [dat0]
@[inherit_doc after0_0]
theorem after0_7 (c : Dev nD) (t : Fin cfg0.N) : (dat0 W c).after 7 t = iblk0 W c 7 t := by dsimp only [dat0]
@[inherit_doc after0_0]
theorem after0_8 (c : Dev nD) (t : Fin cfg0.N) : (dat0 W c).after 8 t = iblk0 W c 8 t := by dsimp only [dat0]
@[inherit_doc after0_0]
theorem after0_9 (c : Dev nD) (t : Fin cfg0.N) : (dat0 W c).after 9 t = iblk0 W c 9 t := by dsimp only [dat0]
@[inherit_doc after0_0]
theorem after0_10 (c : Dev nD) (t : Fin cfg0.N) : (dat0 W c).after 10 t = iblk0 W c 10 t := by dsimp only [dat0]
@[inherit_doc after0_0]
theorem after0_11 (c : Dev nD) (t : Fin cfg0.N) : (dat0 W c).after 11 t = iblk0 W c 11 t := by dsimp only [dat0]
@[inherit_doc after0_0]
theorem after0_12 (c : Dev nD) (t : Fin cfg0.N) : (dat0 W c).after 12 t = iblk0 W c 12 t := by dsimp only [dat0]
@[inherit_doc after0_0]
theorem after0_13 (c : Dev nD) (t : Fin cfg0.N) : (dat0 W c).after 13 t = iblk0 W c 13 t := by dsimp only [dat0]
@[inherit_doc after0_0]
theorem after0_14 (c : Dev nD) (t : Fin cfg0.N) : (dat0 W c).after 14 t = iblk0 W c 14 t := by dsimp only [dat0]
@[inherit_doc after0_0]
theorem after0_15 (c : Dev nD) (t : Fin cfg0.N) : (dat0 W c).after 15 t = iblk0 W c 15 t := by dsimp only [dat0]
/-- What a window of the gate kernel holds after the body. -/
theorem after1_0 (c : Dev nD) (t : Fin cfg1.N) : (dat1 W c).after 0 t = iblk1 W c 0 t := by dsimp only [dat1]
@[inherit_doc after1_0]
theorem after1_1 (c : Dev nD) (t : Fin cfg1.N) : (dat1 W c).after 1 t = iblk1 W c 1 t := by dsimp only [dat1]
@[inherit_doc after1_0]
theorem after1_2 (c : Dev nD) (t : Fin cfg1.N) : (dat1 W c).after 2 t = outGates (iblk1 W c 0 t) (iblk1 W c 1 t) := by dsimp only [dat1]
@[inherit_doc after1_0]
theorem after1_3 (c : Dev nD) (t : Fin cfg1.N) : (dat1 W c).after 3 t = outLoad (iblk1 W c 0 t) (iblk1 W c 1 t) := by dsimp only [dat1]

/-- An input window of the main kernel holds its block when the body starts. -/
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
@[inherit_doc before0_0]
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
@[inherit_doc before0_0]
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
@[inherit_doc before0_0]
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
@[inherit_doc before0_0]
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
@[inherit_doc before0_0]
theorem before0_5 (c : Dev nD) (t : Fin cfg0.N) (d) : (dat0 W c).before 5 t d = iblk0 W c 5 t :=
  ((dat0 W c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
@[inherit_doc before0_0]
theorem before0_6 (c : Dev nD) (t : Fin cfg0.N) (d) : (dat0 W c).before 6 t d = iblk0 W c 6 t :=
  ((dat0 W c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
@[inherit_doc before0_0]
theorem before0_7 (c : Dev nD) (t : Fin cfg0.N) (d) : (dat0 W c).before 7 t d = iblk0 W c 7 t :=
  ((dat0 W c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
@[inherit_doc before0_0]
theorem before0_8 (c : Dev nD) (t : Fin cfg0.N) (d) : (dat0 W c).before 8 t d = iblk0 W c 8 t :=
  ((dat0 W c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
@[inherit_doc before0_0]
theorem before0_9 (c : Dev nD) (t : Fin cfg0.N) (d) : (dat0 W c).before 9 t d = iblk0 W c 9 t :=
  ((dat0 W c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
@[inherit_doc before0_0]
theorem before0_10 (c : Dev nD) (t : Fin cfg0.N) (d) : (dat0 W c).before 10 t d = iblk0 W c 10 t :=
  ((dat0 W c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
@[inherit_doc before0_0]
theorem before0_11 (c : Dev nD) (t : Fin cfg0.N) (d) : (dat0 W c).before 11 t d = iblk0 W c 11 t :=
  ((dat0 W c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)
@[inherit_doc before0_0]
theorem before0_12 (c : Dev nD) (t : Fin cfg0.N) (d) : (dat0 W c).before 12 t d = iblk0 W c 12 t :=
  ((dat0 W c).before_in_eq_fetched 12 rfl (fun _ => rfl) (fun _ _ _ => rfl) (fun t => by rw [after0_12]; unfold Dat.blockOf iblk0; rw [A_eq0]; try rfl) t d).trans
    (by unfold Dat.fetched Dat.blockOf iblk0; rw [A_eq0]; try rfl)
@[inherit_doc before0_0]
theorem before0_13 (c : Dev nD) (t : Fin cfg0.N) (d) : (dat0 W c).before 13 t d = iblk0 W c 13 t :=
  ((dat0 W c).before_in_eq_fetched 13 rfl (fun _ => rfl) (fun _ _ _ => rfl) (fun t => by rw [after0_13]; unfold Dat.blockOf iblk0; rw [A_eq0]; try rfl) t d).trans
    (by unfold Dat.fetched Dat.blockOf iblk0; rw [A_eq0]; try rfl)
@[inherit_doc before0_0]
theorem before0_14 (c : Dev nD) (t : Fin cfg0.N) (d) : (dat0 W c).before 14 t d = iblk0 W c 14 t :=
  ((dat0 W c).before_in_eq_fetched 14 rfl (fun _ => rfl) (fun _ _ _ => rfl) (fun t => by rw [after0_14]; unfold Dat.blockOf iblk0; rw [A_eq0]; try rfl) t d).trans
    (by unfold Dat.fetched Dat.blockOf iblk0; rw [A_eq0]; try rfl)
@[inherit_doc before0_0]
theorem before0_15 (c : Dev nD) (t : Fin cfg0.N) (d) : (dat0 W c).before 15 t d = iblk0 W c 15 t :=
  ((dat0 W c).before_in_eq_fetched 15 rfl (fun _ => rfl) (fun _ _ _ => rfl) (fun t => by rw [after0_15]; unfold Dat.blockOf iblk0; rw [A_eq0]; try rfl) t d).trans
    (by unfold Dat.fetched Dat.blockOf iblk0; rw [A_eq0]; try rfl)
/-- An input window of the gate kernel holds its block when the body starts. -/
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
@[inherit_doc before1_0]
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The main kernel's obligation: the output's buffer keeps the rows written so far -/

/-- The output window is the marked one. -/
def mark (w : Fin cfg0.W) : Bool := w.val == 16

/-- What the marked window's buffer meets after point `t`. -/
def rel0 (c : Dev nD) (w : Fin cfg0.W) (t : Fin cfg0.N) (X : (cfg0.win w).block.Idx → Elt F (cfg0.win w).elt) : Prop :=
  match w, X with
  | ⟨16, _⟩, X => upTo W c t X
  | _, _ => True

/-- What the buffer may hold when the body runs at point `t`: the rows of the points before. -/
theorem finds16 (c : Dev nD) (t : Fin cfg0.N) (Y : Vec F S8x128 .f32) (h : ((dat0 W c).toRRel mark (rel0 W c)).Finds 16 t Y) :
    ∀ y : S8x128.Idx, (y 0).val < t.val → Y y = rows W c y := by
  intro y hy
  have hN : t.val < 8 := N_0 ▸ t.isLt
  have h' := (RDat.finds_of_pos ((dat0 W c).toRRel mark (rel0 W c)) (w := 16) (t := t) (by rfl) (by omega) Y).mp h
  rcases h' with h' | h'
  · exact absurd ((flush0_16 _).mp h') (by dsimp only; omega)
  · exact ((dat0 W c).toRRel_leaves (w := 16) (by rfl) h' : upTo W c _ Y) y (by dsimp only; omega)

/-- The row the main kernel writes is the one of its grid coordinate, -/
theorem off1_0 (i : grid0.Coords) : k0_off1 i 0 = (i 0).val := by
  have : (i 0).val < 8 := (i 0).isLt
  show (BitVec.ofNat 32 (i 0).val).toNat = _
  rw [BitVec.toNat_ofNat]; exact Nat.mod_eq_of_lt (by omega)

/-- which is the number of the grid point. -/
theorem coords0_0 (t : Fin cfg0.N) : (grid0.coords t 0).val = t.val := by
  obtain rfl | rfl | rfl | rfl | rfl | rfl | rfl | rfl := fin_N0 t <;> decide

/-- Overwriting the point's row of such a buffer gives one that holds the point's row too. -/
theorem overlay_upTo (c : Dev nD) (t : Fin cfg0.N) (Y : Vec F S8x128 .f32) (h : ∀ y : S8x128.Idx, (y 0).val < t.val → Y y = rows W c y) :
    upTo W c t ((rrow (grid0.coords t)).overlay Y (rowAt W c t)) := by
  intro y hy
  have e0 := (off1_0 (grid0.coords t)).trans (coords0_0 t)
  by_cases hm : y ∈ (rrow (grid0.coords t)).set
  · rw [← Rect.map_emb_univ] at hm
    obtain ⟨x, -, rfl⟩ := Finset.mem_map.mp hm
    rw [Rect.overlay_emb]
    have hx0 : (x 0).val = 0 := by have := (x 0).isLt; change (x 0).val < 1 at this; omega
    have h0 : (((rrow (grid0.coords t)).emb x) 0).val = t.val := by
      show k0_off1 (grid0.coords t) 0 + 1 * (x 0).val = _; omega
    have h1 : (((rrow (grid0.coords t)).emb x) 1).val = (x 1).val := by
      show k0_off1 (grid0.coords t) 1 + 1 * (x 1).val = _
      rw [show k0_off1 (grid0.coords t) 1 = 0 from rfl]; omega
    unfold rows
    congr 1
    · congr 1; exact Fin.ext h0.symm
    · funext a; match a with
      | ⟨0, _⟩ => exact Fin.ext hx0
      | ⟨1, _⟩ => exact Fin.ext h1.symm
  · rw [Rect.overlay_of_not_mem _ _ _ hm]
    refine h y (lt_of_le_of_ne hy fun he => hm ?_)
    rw [← Rect.map_emb_univ]
    refine Finset.mem_map.mpr ⟨lane (y 1), Finset.mem_univ _, ?_⟩
    funext a; match a with
    | ⟨0, _⟩ => refine Fin.ext ?_; show k0_off1 (grid0.coords t) 0 + 1 * 0 = (y 0).val; omega
    | ⟨1, _⟩ => refine Fin.ext ?_; show k0_off1 (grid0.coords t) 1 + 1 * (y 1).val = (y 1).val; rw [show k0_off1 (grid0.coords t) 1 = 0 from rfl]; omega

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d))
    ∗ (∃ d, owns (c : Thread nD τ) (st0_7 t) fullShare ((dat0 W c).before 7 t d))
    ∗ (∃ d, owns (c : Thread nD τ) (st0_8 t) fullShare ((dat0 W c).before 8 t d))
    ∗ (∃ d, owns (c : Thread nD τ) (st0_9 t) fullShare ((dat0 W c).before 9 t d))
    ∗ (∃ d, owns (c : Thread nD τ) (st0_10 t) fullShare ((dat0 W c).before 10 t d))
    ∗ (∃ d, owns (c : Thread nD τ) (st0_11 t) fullShare ((dat0 W c).before 11 t d))
    ∗ (∃ d, owns (c : Thread nD τ) (st0_12 t) fullShare ((dat0 W c).before 12 t d))
    ∗ (∃ d, owns (c : Thread nD τ) (st0_13 t) fullShare ((dat0 W c).before 13 t d))
    ∗ (∃ d, owns (c : Thread nD τ) (st0_14 t) fullShare ((dat0 W c).before 14 t d))
    ∗ (∃ d, owns (c : Thread nD τ) (st0_15 t) fullShare ((dat0 W c).before 15 t d))
    ∗ (∃ Y, ⌜((dat0 W c).toRRel mark (rel0 W c)).Finds 16 t Y⌝ ∗ owns (c : Thread nD τ) (st0_16 t) fullShare Y))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t)
    ∗ owns (c : Thread nD τ) (st0_7 t) fullShare ((dat0 W c).after 7 t)
    ∗ owns (c : Thread nD τ) (st0_8 t) fullShare ((dat0 W c).after 8 t)
    ∗ owns (c : Thread nD τ) (st0_9 t) fullShare ((dat0 W c).after 9 t)
    ∗ owns (c : Thread nD τ) (st0_10 t) fullShare ((dat0 W c).after 10 t)
    ∗ owns (c : Thread nD τ) (st0_11 t) fullShare ((dat0 W c).after 11 t)
    ∗ owns (c : Thread nD τ) (st0_12 t) fullShare ((dat0 W c).after 12 t)
    ∗ owns (c : Thread nD τ) (st0_13 t) fullShare ((dat0 W c).after 13 t)
    ∗ owns (c : Thread nD τ) (st0_14 t) fullShare ((dat0 W c).after 14 t)
    ∗ owns (c : Thread nD τ) (st0_15 t) fullShare ((dat0 W c).after 15 t)
    ∗ (∃ X, ⌜rel0 W c 16 t X⌝ ∗ owns (c : Thread nD τ) (st0_16 t) fullShare X))

set_option maxHeartbeats 1000000 in
/-- The body at any point. -/
theorem sound0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6, before0_7, before0_8, before0_9, before0_10, before0_11, before0_12, before0_13, before0_14, before0_15]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y, %hY, H16⟩⟩
  iapply (main_body c (grid0.coords t) _ _ _ _ _ _ _ _ _ _ _ _ _ _ _ _ _ _ _ _ _ _ _ _ _ _ _ _ _ _ _ _ _ _ (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t) (iblk0 W c 11 t) (iblk0 W c 12 t) (iblk0 W c 13 t) (iblk0 W c 14 t) (iblk0 W c 15 t) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; isplitr
  swap; · iexact H16
  ipureintro
  exact overlay_upTo W c t Y (finds16 W c t Y hY)

/-- The body the main kernel's pipeline calls. -/
theorem defs₀_row0 (t : Fin cfg0.N) : defs₀ (F := F) .tc cfg0.body (cfg0.bodyArgs t (cfg0.slots t)) = bodyAt0 t := by
  unfold defs₀; rw [Defs.onTc_tc]
/-- The body the gate kernel's pipeline calls. -/
theorem defs₀_row1 (t : Fin cfg1.N) : defs₀ (F := F) .tc cfg1.body (cfg1.bodyArgs t (cfg1.slots t)) = bodyAt1 t := by
  unfold defs₀; rw [Defs.onTc_tc]

/-- The main kernel's body does at every point what its proof data say. -/
theorem obligation0 (c : Dev nD) : BodyObligationRel (dat0 (F := F) W c) (defs₀ (F := F)) Variants.none () Set.univ mark (rel0 W c) := fun t => by
  rw [bigSep_W0, bigSep_W0, defs₀_row0]
  exact triple_restated (sound0 W c t) rfl .rfl fun _ => .rfl

/-! ## The gate kernel's obligation -/

/-- What the gate kernel's body starts from, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d)))

/-- and what it leaves. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t))

/-- The gate kernel's body leads from the one to the other. -/
theorem sound1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1]
  rw [show (dat1 W c).Φ t.succ = (dat1 W c).Φ t.castSucc from rfl,
    show (dat1 W c).owesAt () t.succ = (dat1 W c).owesAt () t.castSucc from rfl,
    after1_0, after1_1, after1_2, after1_3]
  iintro ⟨HΦ, Ho, ⟨%d0, H0⟩, ⟨%d1, H1⟩, ⟨%d2, H2⟩, ⟨%d3, H3⟩⟩
  iapply (gate_body c Set.univ _ _ _ _ _ _ _ _ (iblk1 W c 0 t) (iblk1 W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The gate kernel's body does what its proof data say. -/
theorem obligation1 (c : Dev nD) : BodyObligation (dat1 (F := F) W c) (defs₀ (F := F)) Variants.none () Set.univ := fun t => by
  rw [bigSep_W1, bigSep_W1, defs₀_row1]
  exact triple_restated (sound1 W c t) rfl .rfl fun _ => .rfl

end Cert.KernelIdeal.Hand

end
-- ==== Proof.Run.KernelIdealRun.lean ====
/- The run of the whole program: from any memory it ends, nothing faulting, with every buffer that outlives it at the last valuation
   `V5` — the arguments as launched, the two results at what the gate kernel stored. -/
module

public import proofs.«01_k».proof.Proof.Run.KernelIdealRegions

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- After the main kernel: its array at the rows. -/
abbrev W2 (c : Dev nD) : Valuation τ sig (Elt F) := Function.update (V1 m c) main_v17 (rows (V1 m) c)
/-- When the gate kernel is entered. -/
abbrev W3 (c : Dev nD) : Valuation τ sig (Elt F) := StableHlo.after hostOps1 (W2 m c)

/-- The one point of the gate kernel's grid. -/
abbrev g0 : Fin cfg1.N := t1_0

/-- The arrays that the regions leave: the rows, the gates, the loads. -/
def outs : Outs (F := F) := fun _ r c =>
  if h : r = main_v17 then (h.symm ▸ rows (V1 m) c : Buf (Elt F) ((c : Thread nD τ).loc r))
  else if h : r = main_v19_0 then (h.symm ▸ outGates (iblk1 (W3 m) c 0 g0) (iblk1 (W3 m) c 1 g0) : Buf (Elt F) ((c : Thread nD τ).loc r))
  else if h : r = main_v19_1 then (h.symm ▸ outLoad (iblk1 (W3 m) c 0 g0) (iblk1 (W3 m) c 1 g0) : Buf (Elt F) ((c : Thread nD τ).loc r))
  else m ((c : Thread nD τ).loc r)

/-- What the main kernel leaves in its result, -/
theorem outs_17 (n : ℕ) (c : Dev nD) : outs m n main_v17 c = rows (V1 m) c := by
  unfold outs; rw [dif_pos rfl]
/-- and the gate kernel in its first -/
theorem outs_19_0 (n : ℕ) (c : Dev nD) : outs m n main_v19_0 c = outGates (iblk1 (W3 m) c 0 g0) (iblk1 (W3 m) c 1 g0) := by
  unfold outs; rw [dif_neg (by decide), dif_pos rfl]
/-- and in its second. -/
theorem outs_19_1 (n : ℕ) (c : Dev nD) : outs m n main_v19_1 c = outLoad (iblk1 (W3 m) c 0 g0) (iblk1 (W3 m) c 1 g0) := by
  unfold outs; rw [dif_neg (by decide), dif_neg (by decide), dif_pos rfl]

/-- The memory after the main kernel, -/
theorem V2_eq (c : Dev nD) : V2 m (outs m) c = W2 m c := by
  unfold V2; rw [outs_17]
/-- and after the reshape of its result. -/
theorem V3_eq : V3 m (outs m) = W3 m := by
  funext c; unfold V3; rw [V2_eq]

/-! ## The two pipelines as one family -/

/-- The proof data of the two launches. -/
def dats (p : Fin 2) (c : Dev nD) : Dat τ (Elt F) Unit ℕ (UR sig nD τ) ℕ (cfgs p) c :=
  match p with
  | 0 => dat0 (V1 m) c
  | 1 => dat1 (W3 m) c

/-- The windows marked: the main kernel's output. -/
def marks (p : Fin 2) : Fin (cfgs p).W → Bool :=
  match p with
  | 0 => mark
  | 1 => fun _ => false

/-- What is known of the marked window between points. -/
def rels (p : Fin 2) (c : Dev nD) : (w : Fin (cfgs p).W) → Fin (cfgs p).N → (((cfgs p).win w).block.Idx → Elt F ((cfgs p).win w).elt) → Prop :=
  match p with
  | 0 => rel0 (V1 m) c
  | 1 => fun _ _ _ => True

/-- No semaphore is waited for, -/
abbrev L : GSem nD τ sig → Finset Unit := fun _ => ∅
/-- so none needs a level. -/
abbrev lv : GSem nD τ sig → Unit → ℕ := fun _ _ => 0

/-! ## What the arrays hold after each region -/

/-- All the main kernel's windows but the last are inputs, -/
theorem in0 : ∀ w : Fin cfg0.W, w ≠ 16 → (cfg0.win w).isOut = false := by decide
/-- and none of them is its result. -/
theorem notV17 : ∀ w : Fin cfg0.W, w ≠ 16 → Pipeline.arrRef spec0 w ∉ ([main_v17] : List (Ref sig .tc)) := by decide

/-- The main kernel's last point writes back the whole of its result. -/
theorem whole16 : (cfg0.win 16).WholeAt t0_7 := by
  refine ⟨(flush0_16 _).mpr (by decide), fun t ht => ?_, fun a => ?_⟩
  · have := (flush0_16 t).mp ht
    have h8 : t.val < 8 := N_0 ▸ t.isLt
    exact Fin.ext (show t.val = 7 by omega)
  · match a with
    | ⟨0, _⟩ => exact ⟨rfl, rfl⟩
    | ⟨1, _⟩ => exact ⟨rfl, rfl⟩

/-- The main kernel's arrays after it: the inputs as they were, the output at the rows. -/
theorem arr0 (c : Dev nD) (w : Fin cfg0.W) (A : Buf (Elt F) ((cfg0.win w).arr.view.loc (c.tc : Thread nD τ)))
    (h : ((dat0 (V1 m) c).toRRel mark (rel0 (V1 m) c)).ArrAt w cfg0.N A) : A = V2 m (outs m) c (Proc.devRef .tc (Pipeline.arrRef spec0 w)) := by
  by_cases hw : w = 16
  · subst hw
    obtain ⟨X, hX, hA⟩ := RDat.ArrAt.emb_eq_of_wholeAt h whole16
    have hX' : upTo (V1 m) c t0_7 X := (dat0 (V1 m) c).toRRel_leaves (w := 16) (by rfl) hX
    have e : V2 m (outs m) c (Proc.devRef .tc (Pipeline.arrRef spec0 16)) = rows (V1 m) c := by
      rw [V2_eq]; exact Function.update_self _ _ _
    rw [e]
    funext (j : S8x128.Idx)
    exact (hA j).trans (hX' j (by have := (j 0).isLt; change (j 0).val < 8 at this; show (j 0).val ≤ 7; omega))
  · have hm : mark w = false := by unfold mark; exact beq_eq_false_iff_ne.mpr fun he => hw (Fin.ext he)
    have h1 := (((dat0 (V1 m) c).toR.override_arrAt (by simp only [hm]) _ _).trans ((dat0 (V1 m) c).toR_arrAt_iff w _ _)).mp h
    rw [h1, (dat0 (V1 m) c).arrAt_in w (in0 w hw), A_eq0]
    exact (V2_of m (outs m) c _ (notV17 w hw)).symm

/-- The gate kernel's point writes back the whole of both results. -/
theorem whole1_2 : (cfg1.win 2).WholeAt g0 := by decide +kernel
@[inherit_doc whole1_2]
theorem whole1_3 : (cfg1.win 3).WholeAt g0 := by decide +kernel

/-- The gate kernel's arrays after it. -/
theorem arr1 (c : Dev nD) (w : Fin cfg1.W) (A : Buf (Elt F) ((cfg1.win w).arr.view.loc (c.tc : Thread nD τ)))
    (h : (dat1 (W3 m) c).toR.ArrAt w cfg1.N A) : A = V4 m (outs m) c (Proc.devRef .tc (Pipeline.arrRef spec1 w)) := by
  have h1 := ((dat1 (W3 m) c).toR_arrAt_iff w _ _).mp h
  match w with
  | ⟨0, _⟩ =>
    refine h1.trans (((dat1 (W3 m) c).arrAt_in 0 rfl _).trans ((A_eq1 (W3 m) c 0).trans ?_))
    rw [← V3_eq]
    exact (V4_of m (outs m) c _ (by decide)).symm
  | ⟨1, _⟩ =>
    refine h1.trans (((dat1 (W3 m) c).arrAt_in 1 rfl _).trans ((A_eq1 (W3 m) c 1).trans ?_))
    rw [← V3_eq]
    exact (V4_of m (outs m) c _ (by decide)).symm
  | ⟨2, _⟩ =>
    have e : V4 m (outs m) c (Proc.devRef .tc (Pipeline.arrRef spec1 2)) = outGates (iblk1 (W3 m) c 0 g0) (iblk1 (W3 m) c 1 g0) := by
      unfold V4
      rw [Function.update_of_ne (StableHlo.devRef_ne_of_ne (by decide) : (Proc.devRef .tc main_v19_0 : DevRef τ sig) ≠ Proc.devRef .tc main_v19_1)]
      exact (Function.update_self _ _ _).trans (outs_19_0 m 4 c)
    refine Eq.trans ?_ e.symm
    rw [h1]
    funext (j : S32x14.Idx)
    exact Dat.arrAt_emb_eq_after_last (dat1 (W3 m) c) 2 g0 whole1_2 j
  | ⟨3, _⟩ =>
    have e : V4 m (outs m) c (Proc.devRef .tc (Pipeline.arrRef spec1 3)) = outLoad (iblk1 (W3 m) c 0 g0) (iblk1 (W3 m) c 1 g0) := by
      unfold V4
      exact (Function.update_self _ _ _).trans (outs_19_1 m 4 c)
    refine Eq.trans ?_ e.symm
    rw [h1]
    funext (j : S1x14.Idx)
    refine (Dat.arrAt_emb_eq_after_last (dat1 (W3 m) c) 3 g0 whole1_3 j).trans ?_
    rw [after1_3, _root_.cast_eq]
    congr 1

/-- The results are among the arrays of their launch. -/
theorem mem_arr0 : (Proc.devRef .tc main_v17 : DevRef τ sig) ∈ Pipeline.arrRefs (τ := τ) spec0 :=
  Finset.mem_map.mpr ⟨main_v17, Finset.mem_image.mpr ⟨16, Finset.mem_univ _, rfl⟩, rfl⟩
@[inherit_doc mem_arr0]
theorem mem_arr1_2 : (Proc.devRef .tc main_v19_0 : DevRef τ sig) ∈ Pipeline.arrRefs (τ := τ) spec1 :=
  Finset.mem_map.mpr ⟨main_v19_0, Finset.mem_image.mpr ⟨2, Finset.mem_univ _, rfl⟩, rfl⟩
@[inherit_doc mem_arr0]
theorem mem_arr1_3 : (Proc.devRef .tc main_v19_1 : DevRef τ sig) ∈ Pipeline.arrRefs (τ := τ) spec1 :=
  Finset.mem_map.mpr ⟨main_v19_1, Finset.mem_image.mpr ⟨3, Finset.mem_univ _, rfl⟩, rfl⟩

/-- The main kernel changes nothing but its arrays, -/
theorem off0 (c : Dev nD) (d : DevRef τ sig) (hd : d ∈ Pipeline.ucRefs τ sig \ Pipeline.arrRefs (τ := τ) spec0) : V2 m (outs m) c d = V1 m c d :=
  Function.update_of_ne (fun h => (Finset.mem_sdiff.mp hd).2 (by rw [h]; exact mem_arr0)) _ _

/-- and neither does the gate kernel. -/
theorem off1 (c : Dev nD) (d : DevRef τ sig) (hd : d ∈ Pipeline.ucRefs τ sig \ Pipeline.arrRefs (τ := τ) spec1) : V4 m (outs m) c d = V3 m (outs m) c d :=
  (Function.update_of_ne (fun h => (Finset.mem_sdiff.mp hd).2 (by rw [h]; exact mem_arr1_3)) _ _).trans
    (Function.update_of_ne (fun h => (Finset.mem_sdiff.mp hd).2 (by rw [h]; exact mem_arr1_2)) _ _)

/-! ## The regions' records -/

set_option backward.isDefEq.respectTransparency.types false in
/-- The main kernel's launch as a part of the program, -/
def reg0 : Pipeline.RDat.RegionSeg (pcfgs (F := F)) adm (RegionRun.rel pcfgs adm (dats m) marks (rels m)) () defs₀ Variants.none L lv 0 :=
  RegionRun.seg (pcfgs (F := F)) adm (dats m) () defs₀ Variants.none L lv 0 marks (rels m) launch0.toP rfl
    (fun c => (obligation0 (V1 m) c).toRRel) (fun _ _ => rfl) (fun _ => rfl) (fun c w => (dat0 (V1 m) c).share_full (fun _ => rfl) w) (fun _ _ => rfl)
    (V1 m) (V2 m (outs m)) (fun c w => A_eq0 (V1 m) c w) (fun c w A h => arr0 m c w A h) (off0 m)

set_option backward.isDefEq.respectTransparency.types false in
/-- the gate kernel's, -/
def reg1 : Pipeline.RDat.RegionSeg (pcfgs (F := F)) adm (RegionRun.rel pcfgs adm (dats m) marks (rels m)) () defs₀ Variants.none L lv 1 :=
  RegionRun.seg (pcfgs (F := F)) adm (dats m) () defs₀ Variants.none L lv 1 marks (rels m) launch1.toP rfl
    (fun c => (obligation1 (W3 m) c).loose.toR) (fun _ _ => rfl) (fun _ => rfl) (fun c w => (dat1 (W3 m) c).share_full (fun _ => rfl) w) (fun _ _ => rfl)
    (V3 m (outs m)) (V4 m (outs m)) (fun c w => by rw [V3_eq]; exact A_eq1 (W3 m) c w) (fun c w A h => arr1 m c w A h) (off1 m)

/-- What rides along between the items. -/
abbrev E (_ : Fin 3) (c : Dev nD) : sProp 𝕄 := RegionRun.aside c

/-- and the whole program: host operations and launches in turn. -/
abbrev items (c : Dev nD) : List (Pipeline.RDat.Seg (pcfgs (F := F)) adm (RegionRun.rel pcfgs adm (dats m) marks (rels m)) () defs₀ Variants.none L lv) :=
  [.host (seg0 m Variants.none L lv E), .region (reg0 m), .host (seg2 m (outs m) Variants.none L lv E), .region (reg1 m), .host (seg4 m (outs m) Variants.none L lv E)]

-- the launch theorem's implicit arguments are found by unifying its conclusion with this one, which takes unfolding plain definitions in
-- a metavariable's type
set_option backward.isDefEq.respectTransparency.types false in
set_option maxHeartbeats 800000 in
/-- THE RUN: every buffer that outlives the program ends at `V5`, every semaphore counter at zero. -/
theorem run_all : θ_run defs (onTc (τ := τ) (main (F := F))) ⟨m, fun _ => 0, ρ⟩ (fun r =>
    (∀ c : Dev nD, ∀ b ∈ Pipeline.ucRefs τ sig, r.2.mem (c, b) = V5 m (outs m) c b) ∧ r.2.sem = fun _ => 0) := by
  refine Pipeline.RDat.θ_run_regions_kit_dev_sems (pcfgs (F := F)) adm (RegionRun.rel pcfgs adm (dats m) marks (rels m)) () cellOf_inj emb₁ defs₀ Variants.none L lv m ρ main
    (items m)
    (fun c Q => by
      rewrite [main_chain c, Pipeline.RDat.Seg.run_eq_chain,
        show (items m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.RDat.Seg.pipes_host, Pipeline.RDat.Seg.pipes_region, Pipeline.RDat.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, sep_mono .rfl (by unfold E RegionRun.aside; iintro ⟨-, H⟩; iexact H)⟩)
    (hinit := ?_) (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    unfold E RegionRun.aside
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact h
    iexact HSI

/-- The program ends with its results where the gate kernel and the last host operation leave them, its arguments as they were, and every
    semaphore at zero. -/
theorem ends : θ_run defs (onTc (τ := τ) (main (F := F))) ⟨m, fun _ => 0, ρ⟩ (fun r => (∀ c : Dev nD,
      r.2.mem ((c.tc : Thread nD τ).loc main_v19_0) = V5 m (outs m) c (Proc.devRef .tc main_v19_0)
      ∧ r.2.mem ((c.tc : Thread nD τ).loc main_v20) = V5 m (outs m) c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => ⟨
      h.1 c (Proc.devRef .tc main_v19_0) (Finset.mem_filter.mpr ⟨StableHlo.devRef_mem_tcRefs main_v19_0, by decide⟩),
      h.1 c (Proc.devRef .tc main_v20) (Finset.mem_filter.mpr ⟨StableHlo.devRef_mem_tcRefs main_v20, by decide⟩),
      (h.1 c (Proc.devRef .tc main_arg0) (Finset.mem_filter.mpr ⟨StableHlo.devRef_mem_tcRefs main_arg0, by decide⟩)).trans (V5_main_arg0 m (outs m) c),
      (h.1 c (Proc.devRef .tc main_arg1) (Finset.mem_filter.mpr ⟨StableHlo.devRef_mem_tcRefs main_arg1, by decide⟩)).trans (V5_main_arg1 m (outs m) c),
      (h.1 c (Proc.devRef .tc main_arg2) (Finset.mem_filter.mpr ⟨StableHlo.devRef_mem_tcRefs main_arg2, by decide⟩)).trans (V5_main_arg2 m (outs m) c),
      (h.1 c (Proc.devRef .tc main_arg3) (Finset.mem_filter.mpr ⟨StableHlo.devRef_mem_tcRefs main_arg3, by decide⟩)).trans (V5_main_arg3 m (outs m) c),
      (h.1 c (Proc.devRef .tc main_arg4) (Finset.mem_filter.mpr ⟨StableHlo.devRef_mem_tcRefs main_arg4, by decide⟩)).trans (V5_main_arg4 m (outs m) c),
      (h.1 c (Proc.devRef .tc main_arg5) (Finset.mem_filter.mpr ⟨StableHlo.devRef_mem_tcRefs main_arg5, by decide⟩)).trans (V5_main_arg5 m (outs m) c),
      (h.1 c (Proc.devRef .tc main_arg6) (Finset.mem_filter.mpr ⟨StableHlo.devRef_mem_tcRefs main_arg6, by decide⟩)).trans (V5_main_arg6 m (outs m) c),
      (h.1 c (Proc.devRef .tc main_arg7) (Finset.mem_filter.mpr ⟨StableHlo.devRef_mem_tcRefs main_arg7, by decide⟩)).trans (V5_main_arg7 m (outs m) c),
      (h.1 c (Proc.devRef .tc main_arg8) (Finset.mem_filter.mpr ⟨StableHlo.devRef_mem_tcRefs main_arg8, by decide⟩)).trans (V5_main_arg8 m (outs m) c),
      (h.1 c (Proc.devRef .tc main_arg9) (Finset.mem_filter.mpr ⟨StableHlo.devRef_mem_tcRefs main_arg9, by decide⟩)).trans (V5_main_arg9 m (outs m) c),
      (h.1 c (Proc.devRef .tc main_arg10) (Finset.mem_filter.mpr ⟨StableHlo.devRef_mem_tcRefs main_arg10, by decide⟩)).trans (V5_main_arg10 m (outs m) c),
      (h.1 c (Proc.devRef .tc main_arg11) (Finset.mem_filter.mpr ⟨StableHlo.devRef_mem_tcRefs main_arg11, by decide⟩)).trans (V5_main_arg11 m (outs m) c),
      (h.1 c (Proc.devRef .tc main_arg12) (Finset.mem_filter.mpr ⟨StableHlo.devRef_mem_tcRefs main_arg12, by decide⟩)).trans (V5_main_arg12 m (outs m) c),
      (h.1 c (Proc.devRef .tc main_arg13) (Finset.mem_filter.mpr ⟨StableHlo.devRef_mem_tcRefs main_arg13, by decide⟩)).trans (V5_main_arg13 m (outs m) c),
      (h.1 c (Proc.devRef .tc main_arg14) (Finset.mem_filter.mpr ⟨StableHlo.devRef_mem_tcRefs main_arg14, by decide⟩)).trans (V5_main_arg14 m (outs m) c),
      (h.1 c (Proc.devRef .tc main_arg15) (Finset.mem_filter.mpr ⟨StableHlo.devRef_mem_tcRefs main_arg15, by decide⟩)).trans (V5_main_arg15 m (outs m) c),
      (h.1 c (Proc.devRef .tc main_arg16) (Finset.mem_filter.mpr ⟨StableHlo.devRef_mem_tcRefs main_arg16, by decide⟩)).trans (V5_main_arg16 m (outs m) c)⟩, h.2⟩) (run_all m ρ)

/-- THE FRAME: the arguments end as launched, every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => (h.1 c).2.2, h.2⟩) (ends m ρ)

end Cert.KernelIdeal.Hand

end
-- ==== Proof.Value.Spec.lean ====
/- The problem's mathematics over extended reals, one definition per stage, with plain coordinates.
   Both programs are read as these functions of their arguments. -/
module

public import Idealize.ShloMosaic.Lib.Pipeline.ValueKit

@[expose] public section

noncomputable section

namespace Cert.Spec

open Idealize.ShloMosaic

/-- The float arguments, each as a function of its coordinates; a frame is a sequence and a time. -/
structure Args where
  x : Fin 2048 → Fin 8 → Fin 8 → Fin 128 → EReal
  w0 : Fin 256 → Fin 128 → Fin 2 → Fin 2 → EReal
  b0 : Fin 256 → EReal
  g0 : Fin 256 → EReal
  e0 : Fin 256 → EReal
  w1 : Fin 512 → Fin 256 → Fin 2 → Fin 2 → EReal
  b1 : Fin 512 → EReal
  g1 : Fin 512 → EReal
  e1 : Fin 512 → EReal
  w2 : Fin 1024 → Fin 512 → Fin 2 → Fin 2 → EReal
  b2 : Fin 1024 → EReal
  g2 : Fin 1024 → EReal
  e2 : Fin 1024 → EReal
  fw : Fin 1024 → Fin 1024 → EReal
  fb : Fin 1024 → EReal
  wg : Fin 32 → Fin 14 → EReal

/-- The number an f32 word stands for. -/
abbrev word (b : BitVec 32) : EReal := Ideal.ofBits .f32 b

/-- The three channel counts, the half, the one and the zero. -/
theorem word_256 : word 0x43800000#32 = ((256 : ℝ) : EReal) := by
  simp [word, Ideal.ofBits, Ideal.ieee, -EReal.coe_mul]; norm_num
@[inherit_doc word_256]
theorem word_512 : word 0x44000000#32 = ((512 : ℝ) : EReal) := by
  simp [word, Ideal.ofBits, Ideal.ieee, -EReal.coe_mul]; norm_num
@[inherit_doc word_256]
theorem word_1024 : word 0x44800000#32 = ((1024 : ℝ) : EReal) := by
  simp [word, Ideal.ofBits, Ideal.ieee, -EReal.coe_mul]; norm_num

/-- Coordinate `2 h + i` of the array that a stride-2 window reads. -/
def dbl {n : ℕ} (h : Fin n) (i : Fin 2) : Fin (2 * n) := ⟨h.val * 2 + i.val, by omega⟩

/-- The mean of a channel vector. -/
def mean {C : ℕ} (c : EReal) (v : Fin C → EReal) : EReal := Ideal.div (∑ k, v k) c

/-- The mean squared distance from the mean. -/
def var {C : ℕ} (c : EReal) (v : Fin C → EReal) : EReal :=
  Ideal.div (∑ k, (v k - mean c v) * (v k - mean c v)) c

/-- Layer normalization of a channel vector, with scale and shift. -/
def layerNorm {C : ℕ} (c : EReal) (v g e : Fin C → EReal) (o : Fin C) : EReal :=
  Ideal.div (v o - mean c v) (Ideal.sqrt (var c v + word 0x3727C5AC#32)) * g o + e o

/-- The exact gelu. -/
def gelu (x : EReal) : EReal :=
  word 0x3F000000#32 * x * (1 + Ideal.erf (x * word 0x3F3504F3#32))

variable (a : Args)

/-- First convolution. -/
def c0 (n : Fin 2048) (h w : Fin 4) (o : Fin 256) : EReal :=
  (∑ c : Fin 128, ∑ i : Fin 2, ∑ j : Fin 2, a.x n (dbl h i) (dbl w j) c * a.w0 o c i j) + a.b0 o
/-- First activation. -/
def y0 (n : Fin 2048) (h w : Fin 4) (o : Fin 256) : EReal := gelu (layerNorm (word 0x43800000#32) (c0 a n h w) a.g0 a.e0 o)
/-- Second convolution. -/
def c1 (n : Fin 2048) (h w : Fin 2) (o : Fin 512) : EReal :=
  (∑ c : Fin 256, ∑ i : Fin 2, ∑ j : Fin 2, y0 a n (dbl h i) (dbl w j) c * a.w1 o c i j) + a.b1 o
/-- Second activation. -/
def y1 (n : Fin 2048) (h w : Fin 2) (o : Fin 512) : EReal := gelu (layerNorm (word 0x44000000#32) (c1 a n h w) a.g1 a.e1 o)
/-- Third convolution: one output position. -/
def c2 (n : Fin 2048) (o : Fin 1024) : EReal :=
  (∑ c : Fin 512, ∑ i : Fin 2, ∑ j : Fin 2, y1 a n i j c * a.w2 o c i j) + a.b2 o
/-- Third activation. -/
def y2 (n : Fin 2048) (o : Fin 1024) : EReal := gelu (layerNorm (word 0x44800000#32) (c2 a n) a.g2 a.e2 o)
/-- The linear map after the convolutions. -/
def y (n : Fin 2048) (d : Fin 1024) : EReal := (∑ k : Fin 1024, y2 a n k * a.fw k d) + a.fb d

/-- Frame `t` of sequence `b`. -/
def frame (b : Fin 32) (t : Fin 64) : Fin 2048 := ⟨b.val * 64 + t.val, by omega⟩

/-- The real and the imaginary part of frequency `k + 1` of channel `d`, for a table of cosines or sines. -/
def part (tab : Fin 32 → Fin 64 → EReal) (b k : Fin 32) (d : Fin 1024) : EReal :=
  ∑ t : Fin 64, y a (frame b t) d * tab k t
/-- The mean amplitude over the channels. -/
def amp (re im : Fin 32 → Fin 64 → EReal) (b k : Fin 32) : EReal :=
  Ideal.div (∑ d : Fin 1024, Ideal.sqrt (part a re b k d * part a re b k d + part a im b k d * part a im b k d))
    (word 0x44800000#32)
/-- The gate's logits. -/
def logit (re im : Fin 32 → Fin 64 → EReal) (b : Fin 32) (e : Fin 14) : EReal :=
  ∑ k : Fin 32, amp a re im b k * a.wg k e

end Cert.Spec

end
-- ==== Proof.Value.KernelFirst.lean ====
/- The main kernel's first layer, read at an index: the four gathered windows, the convolution, the layer norm with its gelu. -/
module

public import proofs.«01_k».proof.Proof.Run.KernelIdealBody
public import proofs.«01_k».proof.Proof.Value.Spec

@[expose] public section

set_option maxRecDepth 16384

noncomputable section

namespace Cert.KernelIdeal.Value

open Cert.KernelIdeal.Gen Cert.KernelIdeal.Hand
open Idealize.ShloMosaic Cert.Spec

/-- The mean as the kernel forms it: the sum times the reciprocal of the channel count. -/
def kmean {C : ℕ} (iv : EReal) (v : Fin C → EReal) : EReal := (∑ k, v k) * iv

/-- The layer norm as the kernel forms it: the variance is the mean of squares less the square of the mean. -/
def knorm {C : ℕ} (iv : EReal) (v g e : Fin C → EReal) (o : Fin C) : EReal :=
  (v o - kmean iv v) * Ideal.rsqrt (kmean iv (fun k => v k * v k) - kmean iv v * kmean iv v + word 0x3727C5AC#32) * g o + e o

/-- The layer norm's last steps and the gelu on a block of rows. -/
def actOf (v : FVec Ideal S1024x256 .f32) (m s : FVec Ideal S1024x1 .f32) (g e : FVec Ideal S1x256 .f32) : FVec Ideal S1024x256 .f32 :=
  k0_pay12 g e (subf v (broadcastTo S1024x256 m broadcasts_S1024x1_S1024x256))
    (rsqrt (addf (subf s (mulf m m)) (broadcast S1024x1 (Scalar.ofBits .f32 0x3727C5AC#32))))

/-- The mean of each row. -/
def meanOf (v : FVec Ideal S1024x256 .f32) : FVec Ideal S1024x1 .f32 :=
  mulf (matmul dot_S1024x256_S1x256_S1024x1_1_1_0_0_n_n (some .fp32) v (k0_pay8 (F := Ideal)) (constant S1024x1 .f32 0x00000000#32))
    (broadcast S1024x1 (Scalar.ofBits .f32 0x3B800000#32))

/-- The layer norm and gelu of a block of rows. -/
def act (v : FVec Ideal S1024x256 .f32) (g e : FVec Ideal S1x256 .f32) : FVec Ideal S1024x256 .f32 :=
  actOf v (meanOf v) (meanOf (mulf v v)) g e

/-- One column group of the gathered windows: of each 4 by 4 patch, the entry at row offset `a, i` and column offset `b, j`. -/
def pick (v : FVec Ideal S16384x128 .f32) (a i b j : ℕ)
    (h : S256x2x2x2x2x2x2x128.Slices ![0, 0, a, i, 0, b, j, 0] S256x2x1x1x2x1x1x128) : FVec Ideal S1024x128 .f32 :=
  shapeCast S1024x128 (shapeCast S256x2x2x128 (extractStridedSlice S256x2x1x1x2x1x1x128 ![0, 0, a, i, 0, b, j, 0] (k0_pay2 (F := Ideal) v) h)
    shapeCasts_S256x2x1x1x2x1x1x128_S256x2x2x128) shapeCasts_S256x2x2x128_S1024x128

/-- The convolution of the four column groups with its bias. -/
def conv (u0 u1 u2 u3 : FVec Ideal S1024x128 .f32) (b : FVec Ideal S1x256 .f32) (w : FVec Ideal S512x256 .f32) : FVec Ideal S1024x256 .f32 :=
  addf (matmul dot_S1024x512_S512x256_S1024x256_1_0_0_1_n_n none
      (concatenate S1024x512 1 [⟨S1024x128, u0⟩, ⟨S1024x128, u1⟩, ⟨S1024x128, u2⟩, ⟨S1024x128, u3⟩] concatenates_S1024x128_S1024x128_S1024x128_S1024x128_S1024x512_d1)
      w (constant S1024x256 .f32 0x00000000#32))
    (broadcastTo S1024x256 b broadcasts_S1x256_S1024x256)

/-- A sum over 512 entries in four groups of 128. -/
theorem sum_512 (f : Fin 512 → EReal) :
    ∑ k, f k = ∑ c : Fin 128, (f ⟨c.val, by omega⟩ + f ⟨128 + c.val, by omega⟩ + (f ⟨256 + c.val, by omega⟩ + f ⟨384 + c.val, by omega⟩)) := by
  have h := Fin.sum_univ_add (a := 256) (b := 256) f
  have h1 := Fin.sum_univ_add (a := 128) (b := 128) (fun i : Fin (128 + 128) => f (Fin.castAdd 256 i))
  have h2 := Fin.sum_univ_add (a := 128) (b := 128) (fun i : Fin (128 + 128) => f (Fin.natAdd 256 i))
  rw [Finset.sum_add_distrib, Finset.sum_add_distrib, Finset.sum_add_distrib]
  refine h.trans (congrArg₂ (· + ·) (h1.trans rfl) (h2.trans (congrArg₂ (· + ·) rfl ?_)))
  refine Finset.sum_congr rfl fun c _ => congrArg f (Fin.ext ?_)
  show 256 + (128 + c.val) = 384 + c.val
  omega

/-- The convolution read at an index: over the channels, the four window entries with their weights. -/
theorem conv_apply (u0 u1 u2 u3 : FVec Ideal S1024x128 .f32) (b : FVec Ideal S1x256 .f32) (w : FVec Ideal S512x256 .f32) (p : Fin 1024) (o : Fin 256) :
    conv u0 u1 u2 u3 b w (ix2 p o)
      = (∑ c : Fin 128, (u0 (ix2 p c) * w (ix2 ⟨c.val, by omega⟩ o) + u1 (ix2 p c) * w (ix2 ⟨128 + c.val, by omega⟩ o)
          + (u2 (ix2 p c) * w (ix2 ⟨256 + c.val, by omega⟩ o) + u3 (ix2 p c) * w (ix2 ⟨384 + c.val, by omega⟩ o)))) + b (ix2 0 o) := by
  pointwise [conv]
  refine congrArg (· + b (ix2 0 o)) ((sum_512 _).trans (Finset.sum_congr rfl fun c _ => ?_))
  have hc := c.isLt
  rw [dif_pos (show c.val < 128 from hc), dif_neg (show ¬ 128 + c.val < 128 by omega), dif_pos (show 128 + c.val - 128 < 128 by omega),
    dif_neg (show ¬ 256 + c.val < 128 by omega), dif_neg (show ¬ 256 + c.val - 128 < 128 by omega), dif_pos (show 256 + c.val - 128 - 128 < 128 by omega),
    dif_neg (show ¬ 384 + c.val < 128 by omega), dif_neg (show ¬ 384 + c.val - 128 < 128 by omega), dif_neg (show ¬ 384 + c.val - 128 - 128 < 128 by omega)]
  have e1 : (⟨128 + c.val - 128, by omega⟩ : Fin 128) = c := Fin.ext (by show 128 + c.val - 128 = c.val; omega)
  have e2 : (⟨256 + c.val - 128 - 128, by omega⟩ : Fin 128) = c := Fin.ext (by show 256 + c.val - 128 - 128 = c.val; omega)
  have e3 : (⟨384 + c.val - 128 - 128 - 128, by omega⟩ : Fin 128) = c := Fin.ext (by show 384 + c.val - 128 - 128 - 128 = c.val; omega)
  rw [e1, e2, e3]

/-- The layer norm with its gelu read at an index. -/
theorem act_apply (v : FVec Ideal S1024x256 .f32) (g e : FVec Ideal S1x256 .f32) (p : Fin 1024) (o : Fin 256) :
    act v g e (ix2 p o) = gelu (knorm (word 0x3B800000#32) (fun k => v (ix2 p k)) (fun k => g (ix2 0 k)) (fun k => e (ix2 0 k)) o) := by
  pointwise [act, actOf, meanOf, k0_pay12, k0_pay8, gelu, knorm, kmean]
  rfl

/-- A column group read at an index. -/
theorem pick_apply (v : FVec Ideal S16384x128 .f32) (a i b j : ℕ) (h) (p : Fin 1024) (c : Fin 128) (r : Fin 16384)
    (hr : r.val = p.val / 4 * 64 + p.val / 2 % 2 * 32 + a * 16 + i * 8 + p.val % 2 * 4 + b * 2 + j) :
    pick v a i b j h (ix2 p c) = v (ix2 r c) := by
  pointwise [pick, k0_pay2]
  exact congrArg (fun q => v (ix2 q c)) (Fin.ext hr.symm)

/-- The four positions' blocks are the same layer on the four gatherings. -/
theorem hA_eq (x0 : FVec Ideal S16384x128 .f32) (x1 : FVec Ideal S512x256 .f32) (x5 x6 x7 : FVec Ideal S1x256 .f32) :
    hA (F := Ideal) x0 x1 x5 x6 x7 = act (conv (pick (View.ld (Val := Elt Ideal) (e' := .f32) x0 rx) 0 0 0 0 slices_S256x2x2x2x2x2x2x128_o0_0_0_0_0_0_0_0_S256x2x1x1x2x1x1x128)
      (pick (View.ld (Val := Elt Ideal) (e' := .f32) x0 rx) 0 0 0 1 slices_S256x2x2x2x2x2x2x128_o0_0_0_0_0_0_1_0_S256x2x1x1x2x1x1x128)
      (pick (View.ld (Val := Elt Ideal) (e' := .f32) x0 rx) 0 1 0 0 slices_S256x2x2x2x2x2x2x128_o0_0_0_1_0_0_0_0_S256x2x1x1x2x1x1x128)
      (pick (View.ld (Val := Elt Ideal) (e' := .f32) x0 rx) 0 1 0 1 slices_S256x2x2x2x2x2x2x128_o0_0_0_1_0_0_1_0_S256x2x1x1x2x1x1x128)
      (k0_pay3 (F := Ideal) (View.ld (Val := Elt Ideal) (e' := .f32) x5 rv256)) (k0_pay6 (F := Ideal) (View.ld (Val := Elt Ideal) (e' := .f32) x1 rw0))) (k0_pay4 (F := Ideal) (View.ld (Val := Elt Ideal) (e' := .f32) x6 rv256)) (k0_pay5 (F := Ideal) (View.ld (Val := Elt Ideal) (e' := .f32) x7 rv256)) := rfl
@[inherit_doc hA_eq]
theorem hB_eq (x0 : FVec Ideal S16384x128 .f32) (x1 : FVec Ideal S512x256 .f32) (x5 x6 x7 : FVec Ideal S1x256 .f32) :
    hB (F := Ideal) x0 x1 x5 x6 x7 = act (conv (pick (View.ld (Val := Elt Ideal) (e' := .f32) x0 rx) 0 0 1 0 slices_S256x2x2x2x2x2x2x128_o0_0_0_0_0_1_0_0_S256x2x1x1x2x1x1x128)
      (pick (View.ld (Val := Elt Ideal) (e' := .f32) x0 rx) 0 0 1 1 slices_S256x2x2x2x2x2x2x128_o0_0_0_0_0_1_1_0_S256x2x1x1x2x1x1x128)
      (pick (View.ld (Val := Elt Ideal) (e' := .f32) x0 rx) 0 1 1 0 slices_S256x2x2x2x2x2x2x128_o0_0_0_1_0_1_0_0_S256x2x1x1x2x1x1x128)
      (pick (View.ld (Val := Elt Ideal) (e' := .f32) x0 rx) 0 1 1 1 slices_S256x2x2x2x2x2x2x128_o0_0_0_1_0_1_1_0_S256x2x1x1x2x1x1x128)
      (k0_pay3 (F := Ideal) (View.ld (Val := Elt Ideal) (e' := .f32) x5 rv256)) (k0_pay6 (F := Ideal) (View.ld (Val := Elt Ideal) (e' := .f32) x1 rw0))) (k0_pay4 (F := Ideal) (View.ld (Val := Elt Ideal) (e' := .f32) x6 rv256)) (k0_pay5 (F := Ideal) (View.ld (Val := Elt Ideal) (e' := .f32) x7 rv256)) := rfl
@[inherit_doc hA_eq]
theorem hC_eq (x0 : FVec Ideal S16384x128 .f32) (x1 : FVec Ideal S512x256 .f32) (x5 x6 x7 : FVec Ideal S1x256 .f32) :
    hC (F := Ideal) x0 x1 x5 x6 x7 = act (conv (pick (View.ld (Val := Elt Ideal) (e' := .f32) x0 rx) 1 0 0 0 slices_S256x2x2x2x2x2x2x128_o0_0_1_0_0_0_0_0_S256x2x1x1x2x1x1x128)
      (pick (View.ld (Val := Elt Ideal) (e' := .f32) x0 rx) 1 0 0 1 slices_S256x2x2x2x2x2x2x128_o0_0_1_0_0_0_1_0_S256x2x1x1x2x1x1x128)
      (pick (View.ld (Val := Elt Ideal) (e' := .f32) x0 rx) 1 1 0 0 slices_S256x2x2x2x2x2x2x128_o0_0_1_1_0_0_0_0_S256x2x1x1x2x1x1x128)
      (pick (View.ld (Val := Elt Ideal) (e' := .f32) x0 rx) 1 1 0 1 slices_S256x2x2x2x2x2x2x128_o0_0_1_1_0_0_1_0_S256x2x1x1x2x1x1x128)
      (k0_pay3 (F := Ideal) (View.ld (Val := Elt Ideal) (e' := .f32) x5 rv256)) (k0_pay6 (F := Ideal) (View.ld (Val := Elt Ideal) (e' := .f32) x1 rw0))) (k0_pay4 (F := Ideal) (View.ld (Val := Elt Ideal) (e' := .f32) x6 rv256)) (k0_pay5 (F := Ideal) (View.ld (Val := Elt Ideal) (e' := .f32) x7 rv256)) := rfl
@[inherit_doc hA_eq]
theorem hD_eq (x0 : FVec Ideal S16384x128 .f32) (x1 : FVec Ideal S512x256 .f32) (x5 x6 x7 : FVec Ideal S1x256 .f32) :
    mulf (hD1 (F := Ideal) x0 x1 x5 x6 x7) (addf (k0_pay22 (F := Ideal)) (hD2 (F := Ideal) x0 x1 x5 x6 x7)) = act (conv (pick (View.ld (Val := Elt Ideal) (e' := .f32) x0 rx) 1 0 1 0 slices_S256x2x2x2x2x2x2x128_o0_0_1_0_0_1_0_0_S256x2x1x1x2x1x1x128)
      (pick (View.ld (Val := Elt Ideal) (e' := .f32) x0 rx) 1 0 1 1 slices_S256x2x2x2x2x2x2x128_o0_0_1_0_0_1_1_0_S256x2x1x1x2x1x1x128)
      (pick (View.ld (Val := Elt Ideal) (e' := .f32) x0 rx) 1 1 1 0 slices_S256x2x2x2x2x2x2x128_o0_0_1_1_0_1_0_0_S256x2x1x1x2x1x1x128)
      (pick (View.ld (Val := Elt Ideal) (e' := .f32) x0 rx) 1 1 1 1 slices_S256x2x2x2x2x2x2x128_o0_0_1_1_0_1_1_0_S256x2x1x1x2x1x1x128)
      (k0_pay3 (F := Ideal) (View.ld (Val := Elt Ideal) (e' := .f32) x5 rv256)) (k0_pay6 (F := Ideal) (View.ld (Val := Elt Ideal) (e' := .f32) x1 rw0))) (k0_pay4 (F := Ideal) (View.ld (Val := Elt Ideal) (e' := .f32) x6 rv256)) (k0_pay5 (F := Ideal) (View.ld (Val := Elt Ideal) (e' := .f32) x7 rv256)) := rfl

end Cert.KernelIdeal.Value
-- ==== Proof.Value.KernelSecond.lean ====
/- The main kernel's second and third layers and its tail, read at an index. -/
module

public import proofs.«01_k».proof.Proof.Value.KernelFirst

@[expose] public section

set_option maxRecDepth 16384

noncomputable section

namespace Cert.KernelIdeal.Value

open Cert.KernelIdeal.Gen Cert.KernelIdeal.Hand
open Idealize.ShloMosaic Cert.Spec

/-! ## The second layer -/

/-- The second convolution: one product for each position of the window, then the bias. -/
def conv1 (a b c d : FVec Ideal S1024x256 .f32) (u0 u1 u2 u3 : FVec Ideal S1x256x512 .f32) (e : FVec Ideal S1x512 .f32) : FVec Ideal S1024x512 .f32 :=
  addf (addf (addf (addf
    (matmul dot_S1024x256_S256x512_S1024x512_1_0_0_1_n_n none a (shapeCast S256x512 u0 shapeCasts_S1x256x512_S256x512) (constant S1024x512 .f32 0x00000000#32))
    (matmul dot_S1024x256_S256x512_S1024x512_1_0_0_1_n_n none b (shapeCast S256x512 u1 shapeCasts_S1x256x512_S256x512) (constant S1024x512 .f32 0x00000000#32)))
    (matmul dot_S1024x256_S256x512_S1024x512_1_0_0_1_n_n none c (shapeCast S256x512 u2 shapeCasts_S1x256x512_S256x512) (constant S1024x512 .f32 0x00000000#32)))
    (matmul dot_S1024x256_S256x512_S1024x512_1_0_0_1_n_n none d (shapeCast S256x512 u3 shapeCasts_S1x256x512_S256x512) (constant S1024x512 .f32 0x00000000#32)))
    (broadcastTo S1024x512 (shapeCast S1x512 e shapeCasts_S1x512_S1x512) broadcasts_S1x512_S1024x512)

/-- The second convolution read at an index. -/
theorem conv1_apply (a b c d : FVec Ideal S1024x256 .f32) (u0 u1 u2 u3 : FVec Ideal S1x256x512 .f32) (e : FVec Ideal S1x512 .f32) (p : Fin 1024) (o : Fin 512) :
    conv1 a b c d u0 u1 u2 u3 e (ix2 p o)
      = (∑ k : Fin 256, a (ix2 p k) * u0 (ix3 0 k o)) + (∑ k : Fin 256, b (ix2 p k) * u1 (ix3 0 k o))
        + (∑ k : Fin 256, c (ix2 p k) * u2 (ix3 0 k o)) + (∑ k : Fin 256, d (ix2 p k) * u3 (ix3 0 k o)) + e (ix2 0 o) := by
  pointwise [conv1]

/-- The mean of each row of the second layer. -/
def meanOf1 (v : FVec Ideal S1024x512 .f32) : FVec Ideal S1024x1 .f32 :=
  mulf (matmul dot_S1024x512_S1x512_S1024x1_1_1_0_0_n_n (some .fp32) v (k0_pay26 (F := Ideal)) (constant S1024x1 .f32 0x00000000#32))
    (broadcast S1024x1 (Scalar.ofBits .f32 0x3B000000#32))

/-- The second layer's norm and gelu, as four positions for each frame. -/
def act1 (v : FVec Ideal S1024x512 .f32) (g e : FVec Ideal S1x512 .f32) : FVec Ideal S256x2x2x512 .f32 :=
  k0_pay29 (F := Ideal) v g e (meanOf1 v) (meanOf1 (mulf v v))

/-- The second layer's norm and gelu read at an index. -/
theorem act1_apply (v : FVec Ideal S1024x512 .f32) (g e : FVec Ideal S1x512 .f32) (f : Fin 256) (i j : Fin 2) (o : Fin 512) :
    act1 v g e (ix4 f i j o) = gelu (knorm (word 0x3B000000#32) (fun k => v (ix2 ⟨f.val * 4 + i.val * 2 + j.val, by omega⟩ k))
      (fun k => g (ix2 0 k)) (fun k => e (ix2 0 k)) o) := by
  pointwise [act1, meanOf1, k0_pay29, k0_pay26, gelu, knorm, kmean]
  rfl

/-! ## The third layer -/

/-- The third convolution: one product for each position of the window, then the bias. -/
def conv2 (a : FVec Ideal S256x2x2x512 .f32) (u0 u1 u2 u3 : FVec Ideal S1x512x1024 .f32) (e : FVec Ideal S1x1024 .f32) : FVec Ideal S256x1024 .f32 :=
  addf (addf (addf (addf
    (matmul dot_S256x512_S512x1024_S256x1024_1_0_0_1_n_n none (shapeCast S256x512 (extractStridedSlice S256x1x1x512 ![0, 0, 0, 0] a slices_S256x2x2x512_o0_0_0_0_S256x1x1x512) shapeCasts_S256x1x1x512_S256x512)
      (shapeCast S512x1024 u0 shapeCasts_S1x512x1024_S512x1024) (constant S256x1024 .f32 0x00000000#32))
    (matmul dot_S256x512_S512x1024_S256x1024_1_0_0_1_n_n none (shapeCast S256x512 (extractStridedSlice S256x1x1x512 ![0, 0, 1, 0] a slices_S256x2x2x512_o0_0_1_0_S256x1x1x512) shapeCasts_S256x1x1x512_S256x512)
      (shapeCast S512x1024 u1 shapeCasts_S1x512x1024_S512x1024) (constant S256x1024 .f32 0x00000000#32)))
    (matmul dot_S256x512_S512x1024_S256x1024_1_0_0_1_n_n none (shapeCast S256x512 (extractStridedSlice S256x1x1x512 ![0, 1, 0, 0] a slices_S256x2x2x512_o0_1_0_0_S256x1x1x512) shapeCasts_S256x1x1x512_S256x512)
      (shapeCast S512x1024 u2 shapeCasts_S1x512x1024_S512x1024) (constant S256x1024 .f32 0x00000000#32)))
    (matmul dot_S256x512_S512x1024_S256x1024_1_0_0_1_n_n none (shapeCast S256x512 (extractStridedSlice S256x1x1x512 ![0, 1, 1, 0] a slices_S256x2x2x512_o0_1_1_0_S256x1x1x512) shapeCasts_S256x1x1x512_S256x512)
      (shapeCast S512x1024 u3 shapeCasts_S1x512x1024_S512x1024) (constant S256x1024 .f32 0x00000000#32)))
    (broadcastTo S256x1024 (shapeCast S1x1024 e shapeCasts_S1x1024_S1x1024) broadcasts_S1x1024_S256x1024)

/-- The third convolution read at an index. -/
theorem conv2_apply (a : FVec Ideal S256x2x2x512 .f32) (u0 u1 u2 u3 : FVec Ideal S1x512x1024 .f32) (e : FVec Ideal S1x1024 .f32) (f : Fin 256) (o : Fin 1024) :
    conv2 a u0 u1 u2 u3 e (ix2 f o)
      = (∑ k : Fin 512, a (ix4 f 0 0 k) * u0 (ix3 0 k o)) + (∑ k : Fin 512, a (ix4 f 0 1 k) * u1 (ix3 0 k o))
        + (∑ k : Fin 512, a (ix4 f 1 0 k) * u2 (ix3 0 k o)) + (∑ k : Fin 512, a (ix4 f 1 1 k) * u3 (ix3 0 k o)) + e (ix2 0 o) := by
  pointwise [conv2]

/-- The mean of each row of the third layer. -/
def meanOf2 (v : FVec Ideal S256x1024 .f32) : FVec Ideal S256x1 .f32 :=
  mulf (matmul dot_S256x1024_S1x1024_S256x1_1_1_0_0_n_n (some .fp32) v (broadcast S1x1024 (Scalar.ofBits .f32 0x3F800000#32)) (constant S256x1 .f32 0x00000000#32))
    (broadcast S256x1 (Scalar.ofBits .f32 0x3A800000#32))

/-- The third layer's norm, -/
def norm2 (v : FVec Ideal S256x1024 .f32) (g e : FVec Ideal S1x1024 .f32) : FVec Ideal S256x1024 .f32 :=
  addf (mulf (mulf (subf v (broadcastTo S256x1024 (meanOf2 v) broadcasts_S256x1_S256x1024))
    (broadcastTo S256x1024 (rsqrt (addf (subf (meanOf2 (mulf v v)) (mulf (meanOf2 v) (meanOf2 v))) (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 e shapeCasts_S1x1024_S1x1024) broadcasts_S1x1024_S256x1024)

/-- and its gelu. -/
def gelu2 (v : FVec Ideal S256x1024 .f32) : FVec Ideal S256x1024 .f32 :=
  mulf (mulf (broadcast S256x1024 (Scalar.ofBits .f32 0x3F000000#32)) v)
    (addf (broadcast S256x1024 (Scalar.ofBits .f32 0x3F800000#32)) (erf (mulf v (broadcast S256x1024 (Scalar.ofBits .f32 0x3F3504F3#32)))))

/-- The third layer's norm and gelu read at an index. -/
theorem act2_apply (v : FVec Ideal S256x1024 .f32) (g e : FVec Ideal S1x1024 .f32) (f : Fin 256) (o : Fin 1024) :
    gelu2 (norm2 v g e) (ix2 f o) = gelu (knorm (word 0x3A800000#32) (fun k => v (ix2 f k)) (fun k => g (ix2 0 k)) (fun k => e (ix2 0 k)) o) := by
  pointwise [gelu2, norm2, meanOf2, gelu, knorm, kmean]
  rfl

/-! ## The tail -/

/-- The row a grid point stores, read at a lane: the mean over the channels of the amplitude of the product with the table of cosines and sines. -/
theorem tail_apply (v : FVec Ideal S256x1024 .f32) (w : FVec Ideal S1024x1024 .f32) (b : FVec Ideal S1x1024 .f32) (T : FVec Ideal S256x256 .f32) (l : Fin 128) :
    k0_pay1 (F := Ideal) v w b T (ix2 0 l)
      = (∑ d : Fin 1024, Ideal.sqrt (
          (∑ f : Fin 256, T (ix2 ⟨l.val, by omega⟩ f) * ((∑ k : Fin 1024, v (ix2 f k) * w (ix2 k d)) + b (ix2 0 d)))
            * (∑ f : Fin 256, T (ix2 ⟨l.val, by omega⟩ f) * ((∑ k : Fin 1024, v (ix2 f k) * w (ix2 k d)) + b (ix2 0 d)))
          + (∑ f : Fin 256, T (ix2 ⟨128 + l.val, by omega⟩ f) * ((∑ k : Fin 1024, v (ix2 f k) * w (ix2 k d)) + b (ix2 0 d)))
            * (∑ f : Fin 256, T (ix2 ⟨128 + l.val, by omega⟩ f) * ((∑ k : Fin 1024, v (ix2 f k) * w (ix2 k d)) + b (ix2 0 d)))))
        * word 0x3A800000#32 := by
  pointwise [k0_pay1]

/-! ## The whole row -/

/-- The stored row as the composition of the layers. -/
theorem row_eq (x0 : FVec Ideal S16384x128 .f32) (x1 : FVec Ideal S512x256 .f32) (x2 : FVec Ideal S4x256x512 .f32) (x3 : FVec Ideal S4x512x1024 .f32) (x4 : FVec Ideal S1024x1024 .f32)
    (x5 x6 x7 : FVec Ideal S1x256 .f32) (x8 x9 x10 : FVec Ideal S1x512 .f32) (x11 x12 x13 x14 : FVec Ideal S1x1024 .f32) (x15 : FVec Ideal S256x256 .f32) :
    row (F := Ideal) x0 x1 x2 x3 x4 x5 x6 x7 x8 x9 x10 x11 x12 x13 x14 x15
      = k0_pay1 (F := Ideal) (gelu2 (norm2 (conv2 (act1 (conv1 (hA (F := Ideal) x0 x1 x5 x6 x7) (hB (F := Ideal) x0 x1 x5 x6 x7) (hC (F := Ideal) x0 x1 x5 x6 x7)
            (mulf (hD1 (F := Ideal) x0 x1 x5 x6 x7) (addf (k0_pay22 (F := Ideal)) (hD2 (F := Ideal) x0 x1 x5 x6 x7)))
            (View.ld (Val := Elt Ideal) (e' := .f32) x2 rw1_0) (View.ld (Val := Elt Ideal) (e' := .f32) x2 rw1_1) (View.ld (Val := Elt Ideal) (e' := .f32) x2 rw1_2) (View.ld (Val := Elt Ideal) (e' := .f32) x2 rw1_3)
            (View.ld (Val := Elt Ideal) (e' := .f32) x8 rv512))
          (k0_pay24 (F := Ideal) (View.ld (Val := Elt Ideal) (e' := .f32) x9 rv512)) (k0_pay25 (F := Ideal) (View.ld (Val := Elt Ideal) (e' := .f32) x10 rv512)))
          (View.ld (Val := Elt Ideal) (e' := .f32) x3 rw2_0) (View.ld (Val := Elt Ideal) (e' := .f32) x3 rw2_1) (View.ld (Val := Elt Ideal) (e' := .f32) x3 rw2_2) (View.ld (Val := Elt Ideal) (e' := .f32) x3 rw2_3)
          (View.ld (Val := Elt Ideal) (e' := .f32) x11 rv1024))
          (View.ld (Val := Elt Ideal) (e' := .f32) x12 rv1024) (View.ld (Val := Elt Ideal) (e' := .f32) x13 rv1024)))
        (View.ld (Val := Elt Ideal) (e' := .f32) x4 rfw) (View.ld (Val := Elt Ideal) (e' := .f32) x14 rv1024) (View.ld (Val := Elt Ideal) (e' := .f32) x15 rbd) := rfl

end Cert.KernelIdeal.Value
-- ==== Proof.Value.Finite.lean ====
/- Finite values: what keeps them finite, and that on finite values the kernel's layer norm is the problem's. -/
module

public import proofs.«01_k».proof.Proof.Value.KernelFirst

@[expose] public section

noncomputable section

namespace Cert.Spec

open Idealize.ShloMosaic Cert.KernelIdeal.Value

/-- A finite value: a real number. -/
def Fine (x : EReal) : Prop := ∃ r : ℝ, x = (r : EReal)

/-- Sums, products and differences of finite values are finite. -/
theorem Fine.add {x y : EReal} (hx : Fine x) (hy : Fine y) : Fine (x + y) := by
  obtain ⟨r, rfl⟩ := hx; obtain ⟨s, rfl⟩ := hy; exact ⟨r + s, (EReal.coe_add r s).symm⟩
/-- Products of finite values are finite, -/
theorem Fine.mul {x y : EReal} (hx : Fine x) (hy : Fine y) : Fine (x * y) := by
  obtain ⟨r, rfl⟩ := hx; obtain ⟨s, rfl⟩ := hy; exact ⟨r * s, (EReal.coe_mul r s).symm⟩
/-- differences, -/
theorem Fine.sub {x y : EReal} (hx : Fine x) (hy : Fine y) : Fine (x - y) := by
  obtain ⟨r, rfl⟩ := hx; obtain ⟨s, rfl⟩ := hy; exact ⟨r - s, (EReal.coe_sub r s).symm⟩
/-- (a finite sum of real numbers is the same sum as extended reals) -/
theorem coe_sum {ι : Type} (s : Finset ι) (r : ι → ℝ) : ((∑ i ∈ s, r i : ℝ) : EReal) = ∑ i ∈ s, (r i : EReal) :=
  map_sum (⟨⟨fun x : ℝ => (x : EReal), EReal.coe_zero⟩, EReal.coe_add⟩ : ℝ →+ EReal) r s
/-- finite sums, -/
theorem Fine.sum {ι : Type} (s : Finset ι) {f : ι → EReal} (h : ∀ i, Fine (f i)) : Fine (∑ i ∈ s, f i) := by
  choose r hr using h
  exact ⟨∑ i ∈ s, r i, by rw [coe_sum]; exact Finset.sum_congr rfl fun i _ => hr i⟩
/-- one -/
theorem Fine.one : Fine 1 := ⟨1, rfl⟩
/-- and zero. -/
theorem Fine.zero : Fine 0 := ⟨0, rfl⟩

/-- A quotient by a real number other than zero is finite. -/
theorem Fine.div {x : EReal} (hx : Fine x) {c : ℝ} (hc : c ≠ 0) : Fine (Ideal.div x c) := by
  rw [Ideal.div_coe hc]; exact hx.mul ⟨1 / c, rfl⟩

/-- The error function of a finite value is finite. -/
theorem Fine.erf {x : EReal} (hx : Fine x) : Fine (Ideal.erf x) := by
  obtain ⟨r, rfl⟩ := hx; exact ⟨_, rfl⟩

/-- The square root of a real number that is not negative. -/
theorem sqrt_coe {r : ℝ} (h : 0 ≤ r) : Ideal.sqrt (r : EReal) = (Real.sqrt r : EReal) := by
  show (if r < 0 then ⊥ else (Real.sqrt r : EReal)) = _
  rw [if_neg (not_lt.mpr h)]

/-- The reciprocal square root of a positive real number. -/
theorem rsqrt_coe {r : ℝ} (h : 0 < r) : Ideal.rsqrt (r : EReal) = ((Real.sqrt r)⁻¹ : ℝ) := by
  show (if r < 0 then ⊥ else if r = 0 then ⊤ else (((Real.sqrt r)⁻¹ : ℝ) : EReal)) = _
  rw [if_neg (not_lt.mpr h.le), if_neg h.ne']

/-- The norm's small constant is a positive real number. -/
theorem word_eps : ∃ r : ℝ, 0 < r ∧ word 0x3727C5AC#32 = (r : EReal) := by
  refine ⟨(10995116 : ℝ) * (2 : ℝ) ^ (-40 : ℤ), by positivity, ?_⟩
  simp [word, Ideal.ofBits, Ideal.ieee, -EReal.coe_mul]
/-- The half in the gelu is finite, -/
theorem word_half : Fine (word 0x3F000000#32) := by
  refine ⟨(8388608 : ℝ) * (2 : ℝ) ^ (-24 : ℤ), ?_⟩
  simp [word, Ideal.ofBits, Ideal.ieee, -EReal.coe_mul]
/-- and so is the root of one half. -/
theorem word_root : Fine (word 0x3F3504F3#32) := by
  refine ⟨(11863283 : ℝ) * (2 : ℝ) ^ (-24 : ℤ), ?_⟩
  simp [word, Ideal.ofBits, Ideal.ieee, -EReal.coe_mul]

/-- The reciprocals of the channel counts. -/
theorem word_inv_256 : word 0x3B800000#32 = ((1 / 256 : ℝ) : EReal) := by
  simp [word, Ideal.ofBits, Ideal.ieee, -EReal.coe_mul]; norm_num
/-- The word for 1/512, -/
theorem word_inv_512 : word 0x3B000000#32 = ((1 / 512 : ℝ) : EReal) := by
  simp [word, Ideal.ofBits, Ideal.ieee, -EReal.coe_mul]; norm_num
/-- and for 1/1024. -/
theorem word_inv_1024 : word 0x3A800000#32 = ((1 / 1024 : ℝ) : EReal) := by
  simp [word, Ideal.ofBits, Ideal.ieee, -EReal.coe_mul]; norm_num

/-- The gelu of a finite value is finite. -/
theorem Fine.gelu {x : EReal} (hx : Fine x) : Fine (gelu x) :=
  (word_half.mul hx).mul (Fine.one.add (hx.mul word_root).erf)

/-- The mean of squares less the square of the mean is the mean squared distance from the mean. -/
theorem var_real {C : ℕ} {N : ℝ} (hC : (C : ℝ) = N) (hN : 0 < N) (r : Fin C → ℝ) :
    (∑ k, r k * r k) * (1 / N) - (∑ k, r k) * (1 / N) * ((∑ k, r k) * (1 / N))
      = (∑ k, (r k - (∑ k, r k) * (1 / N)) * (r k - (∑ k, r k) * (1 / N))) * (1 / N) := by
  set S := ∑ k, r k with hS
  set m := S * (1 / N) with hm
  have e : ∑ k, (r k - m) * (r k - m) = (∑ k, r k * r k) - 2 * m * S + N * (m * m) := by
    have : ∀ k, (r k - m) * (r k - m) = r k * r k - 2 * m * r k + m * m := fun k => by ring
    simp only [this, Finset.sum_add_distrib, Finset.sum_sub_distrib, ← Finset.mul_sum, Finset.sum_const, Finset.card_univ, Fintype.card_fin, nsmul_eq_mul, hC]
    rw [← hS]
    ring
  have hmN : m * N = S := by rw [hm]; field_simp
  rw [e, ← hmN]
  field_simp
  ring

/-- On finite values the kernel's layer norm is the problem's, and it is finite. -/
theorem norm_eq {C : ℕ} {N : ℝ} (hC : (C : ℝ) = N) (hN : 0 < N) {c iv : EReal} (hc : c = (N : EReal)) (hiv : iv = ((1 / N : ℝ) : EReal))
    {v g e : Fin C → EReal} (hv : ∀ k, Fine (v k)) (hg : ∀ k, Fine (g k)) (he : ∀ k, Fine (e k)) (o : Fin C) :
    knorm iv v g e o = layerNorm c v g e o ∧ Fine (layerNorm c v g e o) := by
  choose r hr using hv
  obtain ⟨ε, hε, heps⟩ := word_eps
  obtain rfl : v = fun k => (r k : EReal) := funext hr
  subst hc hiv
  have hN0 : N ≠ 0 := hN.ne'
  have hs : ∑ k, (r k : EReal) = ((∑ k, r k : ℝ) : EReal) := (coe_sum _ _).symm
  have hm : kmean ((1 / N : ℝ) : EReal) (fun k => (r k : EReal)) = (((∑ k, r k) * (1 / N) : ℝ) : EReal) := by
    unfold kmean; rw [hs, ← EReal.coe_mul]
  have hm' : mean (N : EReal) (fun k => (r k : EReal)) = (((∑ k, r k) * (1 / N) : ℝ) : EReal) := by
    unfold mean; rw [Ideal.div_coe hN0, hs, ← EReal.coe_mul]
  have hq : kmean ((1 / N : ℝ) : EReal) (fun k => (r k : EReal) * (r k : EReal)) = (((∑ k, r k * r k) * (1 / N) : ℝ) : EReal) := by
    unfold kmean
    rw [show (∑ k, (r k : EReal) * (r k : EReal)) = ((∑ k, r k * r k : ℝ) : EReal) by
      rw [coe_sum]; exact Finset.sum_congr rfl fun k _ => (EReal.coe_mul _ _).symm, ← EReal.coe_mul]
  set m : ℝ := (∑ k, r k) * (1 / N) with hmdef
  have hv' : var (N : EReal) (fun k => (r k : EReal)) = (((∑ k, (r k - m) * (r k - m)) * (1 / N) : ℝ) : EReal) := by
    unfold var
    rw [hm', Ideal.div_coe hN0, show (∑ k, ((r k : EReal) - (m : EReal)) * ((r k : EReal) - (m : EReal))) = ((∑ k, (r k - m) * (r k - m) : ℝ) : EReal) by
      rw [coe_sum]; exact Finset.sum_congr rfl fun k _ => by rw [← EReal.coe_sub, ← EReal.coe_mul], ← EReal.coe_mul]
  set w : ℝ := (∑ k, (r k - m) * (r k - m)) * (1 / N) with hw
  have hw0 : 0 ≤ w := mul_nonneg (Finset.sum_nonneg fun k _ => mul_self_nonneg _) (by positivity)
  have hpos : 0 < w + ε := by linarith
  have hsq : Real.sqrt (w + ε) ≠ 0 := (Real.sqrt_pos.mpr hpos).ne'
  have hk : kmean ((1 / N : ℝ) : EReal) (fun k => (r k : EReal) * (r k : EReal)) - kmean ((1 / N : ℝ) : EReal) (fun k => (r k : EReal)) * kmean ((1 / N : ℝ) : EReal) (fun k => (r k : EReal))
      = (w : EReal) := by
    rw [hq, hm, ← EReal.coe_mul, ← EReal.coe_sub, hw, hmdef, var_real hC hN]
  have e1 : knorm ((1 / N : ℝ) : EReal) (fun k => (r k : EReal)) g e o
      = ((r o : EReal) - (m : EReal)) * (((Real.sqrt (w + ε))⁻¹ : ℝ) : EReal) * g o + e o := by
    unfold knorm; rw [hk, hm, heps, ← EReal.coe_add, rsqrt_coe hpos]
  have e2 : layerNorm (N : EReal) (fun k => (r k : EReal)) g e o
      = ((r o : EReal) - (m : EReal)) * (((Real.sqrt (w + ε))⁻¹ : ℝ) : EReal) * g o + e o := by
    unfold layerNorm
    rw [hv', hm', heps, ← EReal.coe_add, sqrt_coe hpos.le, Ideal.div_coe hsq, one_div]
  refine ⟨e1.trans e2.symm, ?_⟩
  rw [e2]
  exact (((Fine.sub ⟨_, rfl⟩ ⟨_, rfl⟩).mul ⟨_, rfl⟩).mul (hg o)).add (he o)

end Cert.Spec

end
-- ==== Proof.Value.KernelLayers.lean ====
/- The main kernel's layers, from blocks that hold the problem's arguments, are the problem's layers. -/
module

public import proofs.«01_k».proof.Proof.Value.KernelSecond
public import proofs.«01_k».proof.Proof.Value.Finite

@[expose] public section

set_option maxRecDepth 16384

noncomputable section

namespace Cert.KernelIdeal.Value

open Cert.KernelIdeal.Gen Cert.KernelIdeal.Hand
open Idealize.ShloMosaic Cert.Spec

/-- Every float argument is a real number. -/
structure FineArgs (a : Args) : Prop where
  x : ∀ n h w c, Fine (a.x n h w c)
  w0 : ∀ o c i j, Fine (a.w0 o c i j)
  b0 : ∀ o, Fine (a.b0 o)
  g0 : ∀ o, Fine (a.g0 o)
  e0 : ∀ o, Fine (a.e0 o)
  w1 : ∀ o c i j, Fine (a.w1 o c i j)
  b1 : ∀ o, Fine (a.b1 o)
  g1 : ∀ o, Fine (a.g1 o)
  e1 : ∀ o, Fine (a.e1 o)
  w2 : ∀ o c i j, Fine (a.w2 o c i j)
  b2 : ∀ o, Fine (a.b2 o)
  g2 : ∀ o, Fine (a.g2 o)
  e2 : ∀ o, Fine (a.e2 o)
  fw : ∀ k d, Fine (a.fw k d)
  fb : ∀ d, Fine (a.fb d)
  wg : ∀ k e, Fine (a.wg k e)

/-- Frame `f` of the 256 frames that grid point `t` works on. -/
def fr (t : Fin 8) (f : Fin 256) : Fin 2048 := ⟨256 * t.val + f.val, by omega⟩

/-- The blocks of grid point `t` hold the arguments, laid out as the kernel wants them. -/
structure Reads (a : Args) (t : Fin 8) (x0 : FVec Ideal S16384x128 .f32) (x1 : FVec Ideal S512x256 .f32) (x2 : FVec Ideal S4x256x512 .f32)
    (x3 : FVec Ideal S4x512x1024 .f32) (x4 : FVec Ideal S1024x1024 .f32) (x5 x6 x7 : FVec Ideal S1x256 .f32) (x8 x9 x10 : FVec Ideal S1x512 .f32)
    (x11 x12 x13 x14 : FVec Ideal S1x1024 .f32) : Prop where
  x : ∀ (f : Fin 256) (h w : Fin 8) (c : Fin 128), x0 (ix2 ⟨f.val * 64 + h.val * 8 + w.val, by omega⟩ c) = a.x (fr t f) h w c
  w0 : ∀ (i j : Fin 2) (c : Fin 128) (o : Fin 256), x1 (ix2 ⟨(i.val * 2 + j.val) * 128 + c.val, by omega⟩ o) = a.w0 o c i j
  w1 : ∀ (i j : Fin 2) (c : Fin 256) (o : Fin 512), x2 (ix3 ⟨i.val * 2 + j.val, by omega⟩ c o) = a.w1 o c i j
  w2 : ∀ (i j : Fin 2) (c : Fin 512) (o : Fin 1024), x3 (ix3 ⟨i.val * 2 + j.val, by omega⟩ c o) = a.w2 o c i j
  fw : ∀ k d, x4 (ix2 k d) = a.fw k d
  b0 : ∀ o, x5 (ix2 0 o) = a.b0 o
  g0 : ∀ o, x6 (ix2 0 o) = a.g0 o
  e0 : ∀ o, x7 (ix2 0 o) = a.e0 o
  b1 : ∀ o, x8 (ix2 0 o) = a.b1 o
  g1 : ∀ o, x9 (ix2 0 o) = a.g1 o
  e1 : ∀ o, x10 (ix2 0 o) = a.e1 o
  b2 : ∀ o, x11 (ix2 0 o) = a.b2 o
  g2 : ∀ o, x12 (ix2 0 o) = a.g2 o
  e2 : ∀ o, x13 (ix2 0 o) = a.e2 o
  fb : ∀ d, x14 (ix2 0 d) = a.fb d

/-! ## Every stage is finite -/

section fine
variable {a : Args} (H : FineArgs a)
include H

/-- The first convolution is finite. -/
theorem fine_c0 (n : Fin 2048) (h w : Fin 4) (o : Fin 256) : Fine (c0 a n h w o) :=
  (Fine.sum _ fun c => Fine.sum _ fun i => Fine.sum _ fun j => (H.x _ _ _ _).mul (H.w0 _ _ _ _)).add (H.b0 o)
/-- The first layer norm, as the kernel forms it, is the problem's, and finite. -/
theorem norm0 (n : Fin 2048) (h w : Fin 4) (o : Fin 256) :
    knorm (word 0x3B800000#32) (c0 a n h w) a.g0 a.e0 o = layerNorm (word 0x43800000#32) (c0 a n h w) a.g0 a.e0 o
      ∧ Fine (layerNorm (word 0x43800000#32) (c0 a n h w) a.g0 a.e0 o) :=
  norm_eq (N := 256) (by norm_num) (by norm_num) word_256 word_inv_256 (fine_c0 H n h w) H.g0 H.e0 o
/-- The first activation is finite. -/
theorem fine_y0 (n : Fin 2048) (h w : Fin 4) (o : Fin 256) : Fine (y0 a n h w o) := (norm0 H n h w o).2.gelu
/-- The second convolution is finite. -/
theorem fine_c1 (n : Fin 2048) (h w : Fin 2) (o : Fin 512) : Fine (c1 a n h w o) :=
  (Fine.sum _ fun c => Fine.sum _ fun i => Fine.sum _ fun j => (fine_y0 H _ _ _ _).mul (H.w1 _ _ _ _)).add (H.b1 o)
/-- The second layer norm. -/
theorem norm1 (n : Fin 2048) (h w : Fin 2) (o : Fin 512) :
    knorm (word 0x3B000000#32) (c1 a n h w) a.g1 a.e1 o = layerNorm (word 0x44000000#32) (c1 a n h w) a.g1 a.e1 o
      ∧ Fine (layerNorm (word 0x44000000#32) (c1 a n h w) a.g1 a.e1 o) :=
  norm_eq (N := 512) (by norm_num) (by norm_num) word_512 word_inv_512 (fine_c1 H n h w) H.g1 H.e1 o
/-- The second activation is finite. -/
theorem fine_y1 (n : Fin 2048) (h w : Fin 2) (o : Fin 512) : Fine (y1 a n h w o) := (norm1 H n h w o).2.gelu
/-- The third convolution is finite. -/
theorem fine_c2 (n : Fin 2048) (o : Fin 1024) : Fine (Spec.c2 a n o) :=
  (Fine.sum _ fun c => Fine.sum _ fun i => Fine.sum _ fun j => (fine_y1 H _ _ _ _).mul (H.w2 _ _ _ _)).add (H.b2 o)
/-- The third layer norm. -/
theorem norm2_eq (n : Fin 2048) (o : Fin 1024) :
    knorm (word 0x3A800000#32) (Spec.c2 a n) a.g2 a.e2 o = layerNorm (word 0x44800000#32) (Spec.c2 a n) a.g2 a.e2 o
      ∧ Fine (layerNorm (word 0x44800000#32) (Spec.c2 a n) a.g2 a.e2 o) :=
  norm_eq (N := 1024) (by norm_num) (by norm_num) word_1024 word_inv_1024 (fine_c2 H n) H.g2 H.e2 o
/-- The third activation is finite. -/
theorem fine_y2 (n : Fin 2048) (o : Fin 1024) : Fine (y2 a n o) := (norm2_eq H n o).2.gelu
/-- The linear map's result is finite. -/
theorem fine_y (n : Fin 2048) (d : Fin 1024) : Fine (y a n d) :=
  (Fine.sum _ fun k => (fine_y2 H _ _).mul (H.fw _ _)).add (H.fb d)

end fine

/-! ## The layers -/

section layers
variable {a : Args} (H : FineArgs a) {t : Fin 8} {x0 : FVec Ideal S16384x128 .f32} {x1 : FVec Ideal S512x256 .f32} {x2 : FVec Ideal S4x256x512 .f32}
    {x3 : FVec Ideal S4x512x1024 .f32} {x4 : FVec Ideal S1024x1024 .f32} {x5 x6 x7 : FVec Ideal S1x256 .f32} {x8 x9 x10 : FVec Ideal S1x512 .f32}
    {x11 x12 x13 x14 : FVec Ideal S1x1024 .f32} (R : Reads a t x0 x1 x2 x3 x4 x5 x6 x7 x8 x9 x10 x11 x12 x13 x14)

/-- The frame, and the half-resolution coordinates, of row `p` of the gathered windows. -/
def prow (p : Fin 1024) : Fin 256 := ⟨p.val / 4, by omega⟩
@[inherit_doc prow] def ph (p : Fin 1024) : Fin 2 := ⟨p.val / 2 % 2, by omega⟩
@[inherit_doc prow] def pw (p : Fin 1024) : Fin 2 := ⟨p.val % 2, by omega⟩

include R in
/-- A column group holds the window entry at its offsets. -/
theorem pick_read (A B i j : Fin 2) (h) (p : Fin 1024) (c : Fin 128) :
    pick x0 A.val i.val B.val j.val h (ix2 p c) = a.x (fr t (prow p)) (dbl (dbl (ph p) A) i) (dbl (dbl (pw p) B) j) c := by
  refine (pick_apply x0 A.val i.val B.val j.val h p c ⟨(prow p).val * 64 + (dbl (dbl (ph p) A) i).val * 8 + (dbl (dbl (pw p) B) j).val, ?_⟩ ?_).trans (R.x _ _ _ _)
  · show p.val / 4 * 64 + ((p.val / 2 % 2 * 2 + A.val) * 2 + i.val) * 8 + ((p.val % 2 * 2 + B.val) * 2 + j.val) < 16384
    omega
  · show p.val / 4 * 64 + ((p.val / 2 % 2 * 2 + A.val) * 2 + i.val) * 8 + ((p.val % 2 * 2 + B.val) * 2 + j.val) = _
    omega

include R in
/-- The first convolution at one of the four positions. -/
theorem conv_read (A B : Fin 2) (h00 h01 h10 h11) (p : Fin 1024) (o : Fin 256) :
    conv (pick x0 A.val 0 B.val 0 h00) (pick x0 A.val 0 B.val 1 h01) (pick x0 A.val 1 B.val 0 h10) (pick x0 A.val 1 B.val 1 h11)
      (k0_pay3 (F := Ideal) x5) (k0_pay6 (F := Ideal) x1) (ix2 p o) = c0 a (fr t (prow p)) (dbl (ph p) A) (dbl (pw p) B) o := by
  rw [conv_apply]
  have hb : k0_pay3 (F := Ideal) x5 (ix2 0 o) = a.b0 o := by pointwise [k0_pay3]; exact R.b0 o
  have hw : ∀ (k : Fin 512), k0_pay6 (F := Ideal) x1 (ix2 k o) = x1 (ix2 k o) := fun k => by pointwise [k0_pay6]
  rw [hb]
  refine congrArg (fun z : EReal => z + a.b0 o) (@Finset.sum_congr (Fin 128) EReal _ _ _ _ _ rfl fun c _ => ?_)
  rw [Fin.sum_univ_two, Fin.sum_univ_two, Fin.sum_univ_two, hw, hw, hw, hw]
  have e (i j : Fin 2) (k : Fin 512) (hk : k.val = (i.val * 2 + j.val) * 128 + c.val) : x1 (ix2 k o) = a.w0 o c i j :=
    (congrArg (fun q => x1 (ix2 q o)) (Fin.ext hk)).trans (R.w0 i j c o)
  rw [e 0 0 _ (by show c.val = (0 * 2 + 0) * 128 + c.val; omega), e 0 1 _ (by show 128 + c.val = (0 * 2 + 1) * 128 + c.val; omega),
    e 1 0 _ (by show 256 + c.val = (1 * 2 + 0) * 128 + c.val; omega), e 1 1 _ (by show 384 + c.val = (1 * 2 + 1) * 128 + c.val; omega)]
  exact congrArg₂ (fun z y : EReal => z + y)
    (congrArg₂ (fun z y : EReal => z * a.w0 o c 0 0 + y * a.w0 o c 0 1) (pick_read R A B 0 0 h00 p c) (pick_read R A B 0 1 h01 p c))
    (congrArg₂ (fun z y : EReal => z * a.w0 o c 1 0 + y * a.w0 o c 1 1) (pick_read R A B 1 0 h10 p c) (pick_read R A B 1 1 h11 p c))

include H R in
/-- The first layer at one of the four positions. -/
theorem layer0 (A B : Fin 2) (h00 h01 h10 h11) (p : Fin 1024) (o : Fin 256) :
    act (conv (pick x0 A.val 0 B.val 0 h00) (pick x0 A.val 0 B.val 1 h01) (pick x0 A.val 1 B.val 0 h10) (pick x0 A.val 1 B.val 1 h11)
      (k0_pay3 (F := Ideal) x5) (k0_pay6 (F := Ideal) x1)) (k0_pay4 (F := Ideal) x6) (k0_pay5 (F := Ideal) x7) (ix2 p o)
      = y0 a (fr t (prow p)) (dbl (ph p) A) (dbl (pw p) B) o := by
  rw [act_apply]
  have hg : (fun k => k0_pay4 (F := Ideal) x6 (ix2 0 k)) = a.g0 := funext fun k => by pointwise [k0_pay4]; exact R.g0 k
  have he : (fun k => k0_pay5 (F := Ideal) x7 (ix2 0 k)) = a.e0 := funext fun k => by pointwise [k0_pay5]; exact R.e0 k
  have hv := funext fun k => conv_read R A B h00 h01 h10 h11 p k
  exact congrArg gelu ((congr (congr (congrArg₂ (knorm (word 0x3B800000#32)) hv hg) he) rfl).trans (norm0 H _ _ _ o).1)

include R in
/-- The second convolution, from blocks that hold the first layer. -/
theorem conv1_read (u : Fin 2 → Fin 2 → FVec Ideal S1024x256 .f32) (v0 v1 v2 v3 : FVec Ideal S1x256x512 .f32)
    (hu : ∀ A B p k, u A B (ix2 p k) = y0 a (fr t (prow p)) (dbl (ph p) A) (dbl (pw p) B) k)
    (h0 : ∀ k o, v0 (ix3 0 k o) = a.w1 o k 0 0) (h1 : ∀ k o, v1 (ix3 0 k o) = a.w1 o k 0 1)
    (h2 : ∀ k o, v2 (ix3 0 k o) = a.w1 o k 1 0) (h3 : ∀ k o, v3 (ix3 0 k o) = a.w1 o k 1 1) (p : Fin 1024) (o : Fin 512) :
    conv1 (u 0 0) (u 0 1) (u 1 0) (u 1 1) v0 v1 v2 v3 x8 (ix2 p o) = c1 a (fr t (prow p)) (ph p) (pw p) o := by
  rw [conv1_apply]
  refine congrArg₂ (fun z y : EReal => z + y) ?_ (R.b1 o)
  simp only [Fin.sum_univ_two, hu, h0, h1, h2, h3]
  rw [Finset.sum_add_distrib, Finset.sum_add_distrib, Finset.sum_add_distrib, add_assoc (_ + _)]

include H R in
/-- The second layer. -/
theorem layer1 (v : FVec Ideal S1024x512 .f32) (hv : ∀ p o, v (ix2 p o) = c1 a (fr t (prow p)) (ph p) (pw p) o) (f : Fin 256) (i j : Fin 2) (o : Fin 512) :
    act1 v (k0_pay24 (F := Ideal) x9) (k0_pay25 (F := Ideal) x10) (ix4 f i j o) = y1 a (fr t f) i j o := by
  rw [act1_apply]
  have hg : (fun k => k0_pay24 (F := Ideal) x9 (ix2 0 k)) = a.g1 := funext fun k => by pointwise [k0_pay24]; exact R.g1 k
  have he : (fun k => k0_pay25 (F := Ideal) x10 (ix2 0 k)) = a.e1 := funext fun k => by pointwise [k0_pay25]; exact R.e1 k
  have e0 : prow ⟨f.val * 4 + i.val * 2 + j.val, by omega⟩ = f := Fin.ext (by show (f.val * 4 + i.val * 2 + j.val) / 4 = f.val; omega)
  have e1 : ph ⟨f.val * 4 + i.val * 2 + j.val, by omega⟩ = i := Fin.ext (by show (f.val * 4 + i.val * 2 + j.val) / 2 % 2 = i.val; omega)
  have e2 : pw ⟨f.val * 4 + i.val * 2 + j.val, by omega⟩ = j := Fin.ext (by show (f.val * 4 + i.val * 2 + j.val) % 2 = j.val; omega)
  have hv' : (fun k => v (ix2 ⟨f.val * 4 + i.val * 2 + j.val, by omega⟩ k)) = c1 a (fr t f) i j := funext fun k => by rw [hv, e0, e1, e2]
  exact congrArg gelu ((congr (congr (congrArg₂ (knorm (word 0x3B000000#32)) hv' hg) he) rfl).trans (norm1 H _ _ _ o).1)

include R in
/-- The third convolution, from a block that holds the second layer. -/
theorem conv2_read (u : FVec Ideal S256x2x2x512 .f32) (v0 v1 v2 v3 : FVec Ideal S1x512x1024 .f32)
    (hu : ∀ f i j k, u (ix4 f i j k) = y1 a (fr t f) i j k)
    (h0 : ∀ k o, v0 (ix3 0 k o) = a.w2 o k 0 0) (h1 : ∀ k o, v1 (ix3 0 k o) = a.w2 o k 0 1)
    (h2 : ∀ k o, v2 (ix3 0 k o) = a.w2 o k 1 0) (h3 : ∀ k o, v3 (ix3 0 k o) = a.w2 o k 1 1) (f : Fin 256) (o : Fin 1024) :
    conv2 u v0 v1 v2 v3 x11 (ix2 f o) = Spec.c2 a (fr t f) o := by
  rw [conv2_apply]
  refine congrArg₂ (fun z y : EReal => z + y) ?_ (R.b2 o)
  simp only [Fin.sum_univ_two, hu, h0, h1, h2, h3]
  rw [Finset.sum_add_distrib, Finset.sum_add_distrib, Finset.sum_add_distrib, add_assoc (_ + _)]

include H R in
/-- The third layer. -/
theorem layer2 (v : FVec Ideal S256x1024 .f32) (hv : ∀ f o, v (ix2 f o) = Spec.c2 a (fr t f) o) (f : Fin 256) (o : Fin 1024) :
    gelu2 (norm2 v x12 x13) (ix2 f o) = y2 a (fr t f) o := by
  rw [act2_apply]
  have hg : (fun k => x12 (ix2 0 k)) = a.g2 := funext R.g2
  have he : (fun k => x13 (ix2 0 k)) = a.e2 := funext R.e2
  have hv' : (fun k => v (ix2 f k)) = Spec.c2 a (fr t f) := funext (hv f)
  exact congrArg gelu ((congr (congr (congrArg₂ (knorm (word 0x3A800000#32)) hv' hg) he) rfl).trans (norm2_eq H _ o).1)

end layers

end Cert.KernelIdeal.Value
-- ==== Proof.Value.HostReads.lean ====
/- The blocks of a grid point, as entries of the arguments the program is called with. -/
module

public import proofs.«01_k».proof.Proof.Value.KernelLayers
public import proofs.«01_k».proof.Proof.Run.KernelIdealRun

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.SL Idealize.SL.Sem Cert.Spec

variable (m : (ℓ : Loc nD τ sig) → Buf (Elt Ideal) ℓ) (c : Dev nD)

/-- The arguments the kernel is called with. -/
def kargs : Args where
  x n h w k := (show FVec Ideal S32x64x8x8x128 .f32 from m ((c : Thread nD τ).loc main_arg0)) (ix5 ⟨n.val / 64, by omega⟩ ⟨n.val % 64, by omega⟩ h w k)
  w0 o k i j := (show FVec Ideal S256x128x2x2 .f32 from m ((c : Thread nD τ).loc main_arg2)) (ix4 o k i j)
  b0 o := (show FVec Ideal S256 .f32 from m ((c : Thread nD τ).loc main_arg3)) (ix1 o)
  g0 o := (show FVec Ideal S256 .f32 from m ((c : Thread nD τ).loc main_arg4)) (ix1 o)
  e0 o := (show FVec Ideal S256 .f32 from m ((c : Thread nD τ).loc main_arg5)) (ix1 o)
  w1 o k i j := (show FVec Ideal S512x256x2x2 .f32 from m ((c : Thread nD τ).loc main_arg6)) (ix4 o k i j)
  b1 o := (show FVec Ideal S512 .f32 from m ((c : Thread nD τ).loc main_arg7)) (ix1 o)
  g1 o := (show FVec Ideal S512 .f32 from m ((c : Thread nD τ).loc main_arg8)) (ix1 o)
  e1 o := (show FVec Ideal S512 .f32 from m ((c : Thread nD τ).loc main_arg9)) (ix1 o)
  w2 o k i j := (show FVec Ideal S1024x512x2x2 .f32 from m ((c : Thread nD τ).loc main_arg10)) (ix4 o k i j)
  b2 o := (show FVec Ideal S1024 .f32 from m ((c : Thread nD τ).loc main_arg11)) (ix1 o)
  g2 o := (show FVec Ideal S1024 .f32 from m ((c : Thread nD τ).loc main_arg12)) (ix1 o)
  e2 o := (show FVec Ideal S1024 .f32 from m ((c : Thread nD τ).loc main_arg13)) (ix1 o)
  fw k d := (show FVec Ideal S1024x1024 .f32 from m ((c : Thread nD τ).loc main_arg14)) (ix2 k d)
  fb d := (show FVec Ideal S1024 .f32 from m ((c : Thread nD τ).loc main_arg15)) (ix1 d)
  wg k e := (show FVec Ideal S32x14 .f32 from m ((c : Thread nD τ).loc main_arg16)) (ix2 k e)

/-- Grid point `t`. -/
def pt (t : Fin 8) : Fin cfg0.N := Fin.cast N_0.symm t

/-! ## Where the blocks lie -/

/-- The main kernel's first block moves with the grid point; every other input block stays. -/
theorem idx0 : ∀ t : Fin cfg0.N, win0_0.index t (0 : Fin 2) = t.val ∧ win0_0.index t (1 : Fin 2) = 0 := (by decide +kernel : ∀ t : Fin grid0.N, _)
@[inherit_doc idx0] theorem idx1 : ∀ t : Fin cfg0.N, win0_1.index t (0 : Fin 2) = 0 ∧ win0_1.index t (1 : Fin 2) = 0 := (by decide +kernel : ∀ t : Fin grid0.N, _)
@[inherit_doc idx0] theorem idx2 : ∀ t : Fin cfg0.N, win0_2.index t (0 : Fin 3) = 0 ∧ win0_2.index t (1 : Fin 3) = 0 ∧ win0_2.index t (2 : Fin 3) = 0 := (by decide +kernel : ∀ t : Fin grid0.N, _)
@[inherit_doc idx0] theorem idx3 : ∀ t : Fin cfg0.N, win0_3.index t (0 : Fin 3) = 0 ∧ win0_3.index t (1 : Fin 3) = 0 ∧ win0_3.index t (2 : Fin 3) = 0 := (by decide +kernel : ∀ t : Fin grid0.N, _)
@[inherit_doc idx0] theorem idx4 : ∀ t : Fin cfg0.N, win0_4.index t (0 : Fin 2) = 0 ∧ win0_4.index t (1 : Fin 2) = 0 := (by decide +kernel : ∀ t : Fin grid0.N, _)
@[inherit_doc idx0] theorem idx5 : ∀ t : Fin cfg0.N, win0_5.index t (0 : Fin 2) = 0 ∧ win0_5.index t (1 : Fin 2) = 0 := (by decide +kernel : ∀ t : Fin grid0.N, _)
@[inherit_doc idx0] theorem idx6 : ∀ t : Fin cfg0.N, win0_6.index t (0 : Fin 2) = 0 ∧ win0_6.index t (1 : Fin 2) = 0 := (by decide +kernel : ∀ t : Fin grid0.N, _)
@[inherit_doc idx0] theorem idx7 : ∀ t : Fin cfg0.N, win0_7.index t (0 : Fin 2) = 0 ∧ win0_7.index t (1 : Fin 2) = 0 := (by decide +kernel : ∀ t : Fin grid0.N, _)
@[inherit_doc idx0] theorem idx8 : ∀ t : Fin cfg0.N, win0_8.index t (0 : Fin 2) = 0 ∧ win0_8.index t (1 : Fin 2) = 0 := (by decide +kernel : ∀ t : Fin grid0.N, _)
@[inherit_doc idx0] theorem idx9 : ∀ t : Fin cfg0.N, win0_9.index t (0 : Fin 2) = 0 ∧ win0_9.index t (1 : Fin 2) = 0 := (by decide +kernel : ∀ t : Fin grid0.N, _)
@[inherit_doc idx0] theorem idx10 : ∀ t : Fin cfg0.N, win0_10.index t (0 : Fin 2) = 0 ∧ win0_10.index t (1 : Fin 2) = 0 := (by decide +kernel : ∀ t : Fin grid0.N, _)
@[inherit_doc idx0] theorem idx11 : ∀ t : Fin cfg0.N, win0_11.index t (0 : Fin 2) = 0 ∧ win0_11.index t (1 : Fin 2) = 0 := (by decide +kernel : ∀ t : Fin grid0.N, _)
@[inherit_doc idx0] theorem idx12 : ∀ t : Fin cfg0.N, win0_12.index t (0 : Fin 2) = 0 ∧ win0_12.index t (1 : Fin 2) = 0 := (by decide +kernel : ∀ t : Fin grid0.N, _)
@[inherit_doc idx0] theorem idx13 : ∀ t : Fin cfg0.N, win0_13.index t (0 : Fin 2) = 0 ∧ win0_13.index t (1 : Fin 2) = 0 := (by decide +kernel : ∀ t : Fin grid0.N, _)
@[inherit_doc idx0] theorem idx14 : ∀ t : Fin cfg0.N, win0_14.index t (0 : Fin 2) = 0 ∧ win0_14.index t (1 : Fin 2) = 0 := (by decide +kernel : ∀ t : Fin grid0.N, _)
@[inherit_doc idx0] theorem idx15 : ∀ t : Fin cfg0.N, win0_15.index t (0 : Fin 2) = 0 ∧ win0_15.index t (1 : Fin 2) = 0 := (by decide +kernel : ∀ t : Fin grid0.N, _)

/-! ## The arrays at the main kernel's entry -/

/-- The frames' array: rows are frame, height and width. -/
theorem entry_x (n : Fin 2048) (h w : Fin 8) (k : Fin 128) :
    (V1 m c (Proc.devRef .tc main_v0) : FVec Ideal S131072x128 .f32) (ix2 ⟨n.val * 64 + h.val * 8 + w.val, by omega⟩ k) = (kargs m c).x n h w k := by
  dsimp only [V1]
  entry_read
  pointwise []
  dsimp only [kargs]
  blk_ext []

/-- The first weights: rows are window position and channel. -/
theorem entry_w0 (i j : Fin 2) (k : Fin 128) (o : Fin 256) :
    (V1 m c (Proc.devRef .tc main_v2) : FVec Ideal S512x256 .f32) (ix2 ⟨(i.val * 2 + j.val) * 128 + k.val, by omega⟩ o) = (kargs m c).w0 o k i j := by
  dsimp only [V1]
  entry_read
  pointwise []
  dsimp only [kargs]
  blk_ext []

/-- The second weights, a matrix for each window position. -/
theorem entry_w1 (i j : Fin 2) (k : Fin 256) (o : Fin 512) :
    (V1 m c (Proc.devRef .tc main_v4) : FVec Ideal S4x256x512 .f32) (ix3 ⟨i.val * 2 + j.val, by omega⟩ k o) = (kargs m c).w1 o k i j := by
  dsimp only [V1]
  entry_read
  pointwise []
  dsimp only [kargs]
  blk_ext []

/-- The third weights, a matrix for each window position. -/
theorem entry_w2 (i j : Fin 2) (k : Fin 512) (o : Fin 1024) :
    (V1 m c (Proc.devRef .tc main_v6) : FVec Ideal S4x512x1024 .f32) (ix3 ⟨i.val * 2 + j.val, by omega⟩ k o) = (kargs m c).w2 o k i j := by
  dsimp only [V1]
  entry_read
  pointwise []
  dsimp only [kargs]
  blk_ext []

/-- The bias, scale and shift vectors, as one-row arrays. -/
theorem entry_b0 (o : Fin 256) : (V1 m c (Proc.devRef .tc main_v7) : FVec Ideal S1x256 .f32) (ix2 0 o) = (kargs m c).b0 o := by
  dsimp only [V1]
  entry_read
  pointwise []
  rfl

@[inherit_doc entry_b0] theorem entry_g0 (o : Fin 256) : (V1 m c (Proc.devRef .tc main_v8) : FVec Ideal S1x256 .f32) (ix2 0 o) = (kargs m c).g0 o := by
  dsimp only [V1]
  entry_read
  pointwise []
  rfl

@[inherit_doc entry_b0] theorem entry_e0 (o : Fin 256) : (V1 m c (Proc.devRef .tc main_v9) : FVec Ideal S1x256 .f32) (ix2 0 o) = (kargs m c).e0 o := by
  dsimp only [V1]
  entry_read
  pointwise []
  rfl

@[inherit_doc entry_b0] theorem entry_b1 (o : Fin 512) : (V1 m c (Proc.devRef .tc main_v10) : FVec Ideal S1x512 .f32) (ix2 0 o) = (kargs m c).b1 o := by
  dsimp only [V1]
  entry_read
  pointwise []
  rfl

@[inherit_doc entry_b0] theorem entry_g1 (o : Fin 512) : (V1 m c (Proc.devRef .tc main_v11) : FVec Ideal S1x512 .f32) (ix2 0 o) = (kargs m c).g1 o := by
  dsimp only [V1]
  entry_read
  pointwise []
  rfl

@[inherit_doc entry_b0] theorem entry_e1 (o : Fin 512) : (V1 m c (Proc.devRef .tc main_v12) : FVec Ideal S1x512 .f32) (ix2 0 o) = (kargs m c).e1 o := by
  dsimp only [V1]
  entry_read
  pointwise []
  rfl

@[inherit_doc entry_b0] theorem entry_b2 (o : Fin 1024) : (V1 m c (Proc.devRef .tc main_v13) : FVec Ideal S1x1024 .f32) (ix2 0 o) = (kargs m c).b2 o := by
  dsimp only [V1]
  entry_read
  pointwise []
  rfl

@[inherit_doc entry_b0] theorem entry_g2 (o : Fin 1024) : (V1 m c (Proc.devRef .tc main_v14) : FVec Ideal S1x1024 .f32) (ix2 0 o) = (kargs m c).g2 o := by
  dsimp only [V1]
  entry_read
  pointwise []
  rfl

@[inherit_doc entry_b0] theorem entry_e2 (o : Fin 1024) : (V1 m c (Proc.devRef .tc main_v15) : FVec Ideal S1x1024 .f32) (ix2 0 o) = (kargs m c).e2 o := by
  dsimp only [V1]
  entry_read
  pointwise []
  rfl

@[inherit_doc entry_b0] theorem entry_fb (o : Fin 1024) : (V1 m c (Proc.devRef .tc main_v16) : FVec Ideal S1x1024 .f32) (ix2 0 o) = (kargs m c).fb o := by
  dsimp only [V1]
  entry_read
  pointwise []
  rfl

/-- The linear map's weights are the argument itself. -/
theorem entry_fw (k d : Fin 1024) : (V1 m c (Proc.devRef .tc main_arg14) : FVec Ideal S1024x1024 .f32) (ix2 k d) = (kargs m c).fw k d := by
  dsimp only [V1]
  entry_read
  rfl

/-- The table is the constant. -/
theorem entry_bd (r k : Fin 256) : (V1 m c (Proc.devRef .tc main_cst) : FVec Ideal S256x256 .f32) (ix2 r k) = word (lit0t (r.val * 256 + k.val)) := by
  dsimp only [V1]
  entry_read
  exact congrArg (fun q => word (lit0t q)) (by exact Shape.rowMajor_val_two (ix2 r k))

/-! ## The blocks -/

/-- The first window's block at a grid point. -/
theorem blk0 (t : Fin 8) (r : Fin 16384) (k : Fin 128) :
    (iblk0 (V1 m) c 0 (pt t) : FVec Ideal S16384x128 .f32) (ix2 r k)
      = (V1 m c (Proc.devRef .tc main_v0) : FVec Ideal S131072x128 .f32) (ix2 ⟨t.val * 16384 + r.val, by omega⟩ k) := by
  blk_ext [iblk0, idx0 (pt t)]
  rfl

/-- Every other input block is its array. -/
theorem blk1 (t : Fin 8) (i : Fin 512) (j : Fin 256) :
    (iblk0 (V1 m) c 1 (pt t) : FVec Ideal S512x256 .f32) (ix2 i j) = (V1 m c (Proc.devRef .tc main_v2) : FVec Ideal S512x256 .f32) (ix2 i j) := by
  blk_ext [iblk0, idx1 (pt t)]
@[inherit_doc blk1] theorem blk2 (t : Fin 8) (i : Fin 4) (j : Fin 256) (k : Fin 512) :
    (iblk0 (V1 m) c 2 (pt t) : FVec Ideal S4x256x512 .f32) (ix3 i j k) = (V1 m c (Proc.devRef .tc main_v4) : FVec Ideal S4x256x512 .f32) (ix3 i j k) := by
  blk_ext [iblk0, idx2 (pt t)]
@[inherit_doc blk1] theorem blk3 (t : Fin 8) (i : Fin 4) (j : Fin 512) (k : Fin 1024) :
    (iblk0 (V1 m) c 3 (pt t) : FVec Ideal S4x512x1024 .f32) (ix3 i j k) = (V1 m c (Proc.devRef .tc main_v6) : FVec Ideal S4x512x1024 .f32) (ix3 i j k) := by
  blk_ext [iblk0, idx3 (pt t)]
@[inherit_doc blk1] theorem blk4 (t : Fin 8) (i : Fin 1024) (j : Fin 1024) :
    (iblk0 (V1 m) c 4 (pt t) : FVec Ideal S1024x1024 .f32) (ix2 i j) = (V1 m c (Proc.devRef .tc main_arg14) : FVec Ideal S1024x1024 .f32) (ix2 i j) := by
  blk_ext [iblk0, idx4 (pt t)]
@[inherit_doc blk1] theorem blk5 (t : Fin 8) (i : Fin 1) (j : Fin 256) :
    (iblk0 (V1 m) c 5 (pt t) : FVec Ideal S1x256 .f32) (ix2 i j) = (V1 m c (Proc.devRef .tc main_v7) : FVec Ideal S1x256 .f32) (ix2 i j) := by
  blk_ext [iblk0, idx5 (pt t)]
@[inherit_doc blk1] theorem blk6 (t : Fin 8) (i : Fin 1) (j : Fin 256) :
    (iblk0 (V1 m) c 6 (pt t) : FVec Ideal S1x256 .f32) (ix2 i j) = (V1 m c (Proc.devRef .tc main_v8) : FVec Ideal S1x256 .f32) (ix2 i j) := by
  blk_ext [iblk0, idx6 (pt t)]
@[inherit_doc blk1] theorem blk7 (t : Fin 8) (i : Fin 1) (j : Fin 256) :
    (iblk0 (V1 m) c 7 (pt t) : FVec Ideal S1x256 .f32) (ix2 i j) = (V1 m c (Proc.devRef .tc main_v9) : FVec Ideal S1x256 .f32) (ix2 i j) := by
  blk_ext [iblk0, idx7 (pt t)]
@[inherit_doc blk1] theorem blk8 (t : Fin 8) (i : Fin 1) (j : Fin 512) :
    (iblk0 (V1 m) c 8 (pt t) : FVec Ideal S1x512 .f32) (ix2 i j) = (V1 m c (Proc.devRef .tc main_v10) : FVec Ideal S1x512 .f32) (ix2 i j) := by
  blk_ext [iblk0, idx8 (pt t)]
@[inherit_doc blk1] theorem blk9 (t : Fin 8) (i : Fin 1) (j : Fin 512) :
    (iblk0 (V1 m) c 9 (pt t) : FVec Ideal S1x512 .f32) (ix2 i j) = (V1 m c (Proc.devRef .tc main_v11) : FVec Ideal S1x512 .f32) (ix2 i j) := by
  blk_ext [iblk0, idx9 (pt t)]
@[inherit_doc blk1] theorem blk10 (t : Fin 8) (i : Fin 1) (j : Fin 512) :
    (iblk0 (V1 m) c 10 (pt t) : FVec Ideal S1x512 .f32) (ix2 i j) = (V1 m c (Proc.devRef .tc main_v12) : FVec Ideal S1x512 .f32) (ix2 i j) := by
  blk_ext [iblk0, idx10 (pt t)]
@[inherit_doc blk1] theorem blk11 (t : Fin 8) (i : Fin 1) (j : Fin 1024) :
    (iblk0 (V1 m) c 11 (pt t) : FVec Ideal S1x1024 .f32) (ix2 i j) = (V1 m c (Proc.devRef .tc main_v13) : FVec Ideal S1x1024 .f32) (ix2 i j) := by
  blk_ext [iblk0, idx11 (pt t)]
@[inherit_doc blk1] theorem blk12 (t : Fin 8) (i : Fin 1) (j : Fin 1024) :
    (iblk0 (V1 m) c 12 (pt t) : FVec Ideal S1x1024 .f32) (ix2 i j) = (V1 m c (Proc.devRef .tc main_v14) : FVec Ideal S1x1024 .f32) (ix2 i j) := by
  blk_ext [iblk0, idx12 (pt t)]
@[inherit_doc blk1] theorem blk13 (t : Fin 8) (i : Fin 1) (j : Fin 1024) :
    (iblk0 (V1 m) c 13 (pt t) : FVec Ideal S1x1024 .f32) (ix2 i j) = (V1 m c (Proc.devRef .tc main_v15) : FVec Ideal S1x1024 .f32) (ix2 i j) := by
  blk_ext [iblk0, idx13 (pt t)]
@[inherit_doc blk1] theorem blk14 (t : Fin 8) (i : Fin 1) (j : Fin 1024) :
    (iblk0 (V1 m) c 14 (pt t) : FVec Ideal S1x1024 .f32) (ix2 i j) = (V1 m c (Proc.devRef .tc main_v16) : FVec Ideal S1x1024 .f32) (ix2 i j) := by
  blk_ext [iblk0, idx14 (pt t)]
@[inherit_doc blk1] theorem blk15 (t : Fin 8) (i : Fin 256) (j : Fin 256) :
    (iblk0 (V1 m) c 15 (pt t) : FVec Ideal S256x256 .f32) (ix2 i j) = (V1 m c (Proc.devRef .tc main_cst) : FVec Ideal S256x256 .f32) (ix2 i j) := by
  blk_ext [iblk0, idx15 (pt t)]

/-- The blocks of a grid point hold the arguments. -/
theorem reads (t : Fin 8) : Reads (kargs m c) t (iblk0 (V1 m) c 0 (pt t)) (iblk0 (V1 m) c 1 (pt t)) (iblk0 (V1 m) c 2 (pt t)) (iblk0 (V1 m) c 3 (pt t))
    (iblk0 (V1 m) c 4 (pt t)) (iblk0 (V1 m) c 5 (pt t)) (iblk0 (V1 m) c 6 (pt t)) (iblk0 (V1 m) c 7 (pt t)) (iblk0 (V1 m) c 8 (pt t)) (iblk0 (V1 m) c 9 (pt t))
    (iblk0 (V1 m) c 10 (pt t)) (iblk0 (V1 m) c 11 (pt t)) (iblk0 (V1 m) c 12 (pt t)) (iblk0 (V1 m) c 13 (pt t)) (iblk0 (V1 m) c 14 (pt t)) where
  x f h w k := (blk0 m c t _ k).trans ((congrArg (fun q => (V1 m c (Proc.devRef .tc main_v0) : FVec Ideal S131072x128 .f32) (ix2 q k))
    (Fin.ext (by show t.val * 16384 + (f.val * 64 + h.val * 8 + w.val) = (256 * t.val + f.val) * 64 + h.val * 8 + w.val; omega))).trans (entry_x m c (fr t f) h w k))
  w0 i j k o := (blk1 m c t _ o).trans (entry_w0 m c i j k o)
  w1 i j k o := (blk2 m c t _ k o).trans (entry_w1 m c i j k o)
  w2 i j k o := (blk3 m c t _ k o).trans (entry_w2 m c i j k o)
  fw k d := (blk4 m c t k d).trans (entry_fw m c k d)
  b0 o := (blk5 m c t 0 o).trans (entry_b0 m c o)
  g0 o := (blk6 m c t 0 o).trans (entry_g0 m c o)
  e0 o := (blk7 m c t 0 o).trans (entry_e0 m c o)
  b1 o := (blk8 m c t 0 o).trans (entry_b1 m c o)
  g1 o := (blk9 m c t 0 o).trans (entry_g1 m c o)
  e1 o := (blk10 m c t 0 o).trans (entry_e1 m c o)
  b2 o := (blk11 m c t 0 o).trans (entry_b2 m c o)
  g2 o := (blk12 m c t 0 o).trans (entry_g2 m c o)
  e2 o := (blk13 m c t 0 o).trans (entry_e2 m c o)
  fb o := (blk14 m c t 0 o).trans (entry_fb m c o)

end Cert.KernelIdeal.Value
-- ==== Proof.Value.Contract.lean ====
/- A host product over three contracted axes, read at an index as a triple sum. -/
module

public import Idealize.ShloMosaic.Lib.Pipeline.ValueKit

@[expose] public section

namespace Cert.Contract

open Idealize.ShloMosaic

variable {s : Shape} {A B C : ℕ}

/-- The index of a shape with three axes that has the given coordinates. -/
def at3 (hr : s.rank = 3) (hs : ∀ p : Fin s.rank, (if p.val = 0 then A else if p.val = 1 then B else C) = s.size p)
    (a : Fin A) (b : Fin B) (c : Fin C) : s.Idx := fun p =>
  if h0 : p.val = 0 then a.cast (by rw [← hs p, if_pos h0])
  else if h1 : p.val = 1 then b.cast (by rw [← hs p, if_neg h0, if_pos h1])
  else c.cast (by rw [← hs p, if_neg h0, if_neg h1])

/-- A shape's indices are the triples of its three coordinates. -/
def triples (hr : s.rank = 3) (hs : ∀ p : Fin s.rank, (if p.val = 0 then A else if p.val = 1 then B else C) = s.size p) :
    Fin A × Fin B × Fin C ≃ s.Idx where
  toFun q := at3 hr hs q.1 q.2.1 q.2.2
  invFun k := ((k ⟨0, by omega⟩).cast (hs ⟨0, by omega⟩).symm, (k ⟨1, by omega⟩).cast (hs ⟨1, by omega⟩).symm,
    (k ⟨2, by omega⟩).cast (hs ⟨2, by omega⟩).symm)
  left_inv _ := rfl
  right_inv k := by
    funext ⟨p, hp⟩
    have : p = 0 ∨ p = 1 ∨ p = 2 := by omega
    rcases this with rfl | rfl | rfl <;> rfl

/-- A sum over the indices of a shape with three axes is the triple sum over the coordinates. -/
theorem sum_at3 {M : Type*} [AddCommMonoid M] (hr : s.rank = 3)
    (hs : ∀ p : Fin s.rank, (if p.val = 0 then A else if p.val = 1 then B else C) = s.size p) (f : s.Idx → M) :
    ∑ k : s.Idx, f k = ∑ a : Fin A, ∑ b : Fin B, ∑ c : Fin C, f (at3 hr hs a b c) := by
  rw [← Equiv.sum_comp (triples hr hs) f]
  simp only [Fintype.sum_prod_type]
  rfl

/-- A product over three contracted axes at an index, the operands' indices named. -/
theorem dot3 {sl sr so : Shape} (d : DotDims sl sr so) (hr : d.contr.rank = 3)
    (hs : ∀ p : Fin d.contr.rank, (if p.val = 0 then A else if p.val = 1 then B else C) = d.contr.size p)
    (x : sl.Idx → EReal) (w : sr.Idx → EReal) (j : so.Idx)
    (L : Fin A → Fin B → Fin C → sl.Idx) (R : Fin A → Fin B → Fin C → sr.Idx)
    (hL : ∀ a b c, d.lhsIdx j (at3 hr hs a b c) = L a b c) (hR : ∀ a b c, d.rhsIdx j (at3 hr hs a b c) = R a b c) :
    Ideal.matmul d x w (fun _ => 0) j = ∑ a : Fin A, ∑ b : Fin B, ∑ c : Fin C, x (L a b c) * w (R a b c) := by
  unfold Ideal.matmul
  rw [zero_add, sum_at3 hr hs]
  simp only [hL, hR]

end Cert.Contract

end
-- ==== Proof.Value.RefLayers.lean ====
/- The reference's stages as the problem's functions. -/
module

public import proofs.«01_k».proof.Proof.Value.Contract
public import proofs.«01_k».proof.Proof.Value.Spec
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo Cert.Contract Cert.Spec

variable (V : Valuation τ sig (Elt Ideal))

/-- The arguments the reference is called with. -/
def args : Args where
  x n h w c := (show FVec Ideal S32x64x8x8x128 .f32 from V (Proc.devRef .tc main_arg0)) (ix5 ⟨n.val / 64, by omega⟩ ⟨n.val % 64, by omega⟩ h w c)
  w0 o c i j := (show FVec Ideal S256x128x2x2 .f32 from V (Proc.devRef .tc main_arg2)) (ix4 o c i j)
  b0 o := (show FVec Ideal S256 .f32 from V (Proc.devRef .tc main_arg3)) (ix1 o)
  g0 o := (show FVec Ideal S256 .f32 from V (Proc.devRef .tc main_arg4)) (ix1 o)
  e0 o := (show FVec Ideal S256 .f32 from V (Proc.devRef .tc main_arg5)) (ix1 o)
  w1 o c i j := (show FVec Ideal S512x256x2x2 .f32 from V (Proc.devRef .tc main_arg6)) (ix4 o c i j)
  b1 o := (show FVec Ideal S512 .f32 from V (Proc.devRef .tc main_arg7)) (ix1 o)
  g1 o := (show FVec Ideal S512 .f32 from V (Proc.devRef .tc main_arg8)) (ix1 o)
  e1 o := (show FVec Ideal S512 .f32 from V (Proc.devRef .tc main_arg9)) (ix1 o)
  w2 o c i j := (show FVec Ideal S1024x512x2x2 .f32 from V (Proc.devRef .tc main_arg10)) (ix4 o c i j)
  b2 o := (show FVec Ideal S1024 .f32 from V (Proc.devRef .tc main_arg11)) (ix1 o)
  g2 o := (show FVec Ideal S1024 .f32 from V (Proc.devRef .tc main_arg12)) (ix1 o)
  e2 o := (show FVec Ideal S1024 .f32 from V (Proc.devRef .tc main_arg13)) (ix1 o)
  fw k d := (show FVec Ideal S1024x1024 .f32 from V (Proc.devRef .tc main_arg14)) (ix2 k d)
  fb d := (show FVec Ideal S1024 .f32 from V (Proc.devRef .tc main_arg15)) (ix1 d)
  wg k e := (show FVec Ideal S32x14 .f32 from V (Proc.devRef .tc main_arg16)) (ix2 k e)

/-- The integer zero as a float is zero, so that the divisor of the variance is the channel count. -/
theorem sub_zero_word (x : EReal) : x - (FloatOps.sitofp (F := Ideal) .f32 (0#32 : BitVec 32) : EReal) = x := by
  show x - ((((0#32 : BitVec 32).toInt : ℤ) : ℝ) : EReal) = x
  simp

/-- The channel counts are positive. -/
theorem pos_256 : 0 < word 0x43800000#32 := by rw [word_256]; exact_mod_cast (by norm_num : (0:ℝ) < 256)
@[inherit_doc pos_256]
theorem pos_512 : 0 < word 0x44000000#32 := by rw [word_512]; exact_mod_cast (by norm_num : (0:ℝ) < 512)
@[inherit_doc pos_256]
theorem pos_1024 : 0 < word 0x44800000#32 := by rw [word_1024]; exact_mod_cast (by norm_num : (0:ℝ) < 1024)

/-- The error function is odd. -/
theorem erf_neg (x : EReal) : Ideal.erf (-x) = -Ideal.erf x := by
  induction x with
  | bot => rw [EReal.neg_bot, Ideal.erf_top, Ideal.erf_bot, neg_neg]
  | top => rw [EReal.neg_top, Ideal.erf_top, Ideal.erf_bot]
  | coe r =>
    rw [← EReal.coe_neg, Ideal.erf_coe, Ideal.erf_coe, ← EReal.coe_neg, ← mul_neg, ← intervalIntegral.integral_symm]
    refine congrArg (fun z : ℝ => ((2 / Real.sqrt Real.pi * z : ℝ) : EReal)) ?_
    have h := intervalIntegral.integral_comp_neg (a := 0) (b := r) fun t : ℝ => Real.exp (-(t ^ 2))
    rw [neg_zero] at h
    rw [intervalIntegral.integral_symm, ← h, intervalIntegral.integral_symm]
    simp

/-- The gelu through the complementary error function is the gelu. -/
theorem gelu_erfc (x : EReal) : word 0x3F000000#32 * x * Ideal.erfc (-x * word 0x3F3504F3#32) = gelu x := by
  rw [gelu, Ideal.erfc, EReal.neg_mul, erf_neg, sub_eq_add_neg, neg_neg]

/-- The first convolution's product, read at an index. -/
theorem dot0 (x : S2048x4x2x4x2x128.Idx → EReal) (w : S256x128x2x2.Idx → EReal) (n : Fin 2048) (h v : Fin 4) (o : Fin 256) :
    Ideal.matmul dot_S2048x4x2x4x2x128_S256x128x2x2_S2048x4x4x256_524_123_013_0_n_n x w (fun _ => 0) (ix4 n h v o)
      = ∑ c : Fin 128, ∑ i : Fin 2, ∑ j : Fin 2, x (ix6 n h i v j c) * w (ix4 o c i j) := by
  refine dot3 (A := 128) (B := 2) (C := 2) _ rfl (by decide) x w _ _ _ (fun c i j => ?_) (fun c i j => ?_)
  · funext p; fin_cases p <;> rfl
  · funext p; fin_cases p <;> rfl

/-- The second convolution's product, read at an index. -/
theorem dot1 (x : S2048x2x2x2x2x256.Idx → EReal) (w : S512x256x2x2.Idx → EReal) (n : Fin 2048) (h v : Fin 2) (o : Fin 512) :
    Ideal.matmul dot_S2048x2x2x2x2x256_S512x256x2x2_S2048x2x2x512_524_123_013_0_n_n x w (fun _ => 0) (ix4 n h v o)
      = ∑ c : Fin 256, ∑ i : Fin 2, ∑ j : Fin 2, x (ix6 n h i v j c) * w (ix4 o c i j) := by
  refine dot3 (A := 256) (B := 2) (C := 2) _ rfl (by decide) x w _ _ _ (fun c i j => ?_) (fun c i j => ?_)
  · funext p; fin_cases p <;> rfl
  · funext p; fin_cases p <;> rfl

/-- The third convolution's product, read at an index. -/
theorem dot2 (x : S2048x1x2x1x2x512.Idx → EReal) (w : S1024x512x2x2.Idx → EReal) (n : Fin 2048) (h v : Fin 1) (o : Fin 1024) :
    Ideal.matmul dot_S2048x1x2x1x2x512_S1024x512x2x2_S2048x1x1x1024_524_123_013_0_n_n x w (fun _ => 0) (ix4 n h v o)
      = ∑ c : Fin 512, ∑ i : Fin 2, ∑ j : Fin 2, x (ix6 n h i v j c) * w (ix4 o c i j) := by
  refine dot3 (A := 512) (B := 2) (C := 2) _ rfl (by decide) x w _ _ _ (fun c i j => ?_) (fun c i j => ?_)
  · funext p; fin_cases p <;> rfl
  · funext p; fin_cases p <;> rfl

/-- The first convolution. -/
theorem v5_eq (n : Fin 2048) (h w : Fin 4) (o : Fin 256) :
    res_main_v5 (F := Ideal) V (ix4 n h w o) = c0 (args V) n h w o := by
  pointwise [res_main_v5]
  refine congrArg₂ (· + ·) ((dot0 _ _ n h w o).trans ?_) rfl
  refine Finset.sum_congr rfl fun c _ => Finset.sum_congr rfl fun i _ => Finset.sum_congr rfl fun j _ => ?_
  refine congrArg₂ (· * ·) ?_ rfl
  pointwise
  rfl

/-- The first normalization. -/
theorem v23_eq (n : Fin 2048) (h w : Fin 4) (o : Fin 256) :
    res_main_v23 (F := Ideal) V (ix4 n h w o)
      = layerNorm (word 0x43800000#32) (fun k => res_main_v5 (F := Ideal) V (ix4 n h w k)) (args V).g0 (args V).e0 o := by
  pointwise [res_main_v23, res_main_call0_v5, res_main_call0_v8, sub_zero_word]
  rw [if_pos pos_256]
  rfl

/-- The first activation. -/
theorem v23_act (n : Fin 2048) (h w : Fin 4) (o : Fin 256) :
    gelu (res_main_v23 (F := Ideal) V (ix4 n h w o)) = y0 (args V) n h w o := by
  rw [v23_eq]; simp only [v5_eq]; rfl

/-- The second convolution. -/
theorem v35_eq (n : Fin 2048) (h w : Fin 2) (o : Fin 512) :
    res_main_v35 (F := Ideal) V (ix4 n h w o) = c1 (args V) n h w o := by
  pointwise [res_main_v35]
  refine congrArg₂ (· + ·) ((dot1 _ _ n h w o).trans ?_) rfl
  refine Finset.sum_congr rfl fun c _ => Finset.sum_congr rfl fun i _ => Finset.sum_congr rfl fun j _ => ?_
  refine congrArg₂ (· * ·) ?_ rfl
  rw [← v23_act]
  pointwise
  exact gelu_erfc _

/-- The second normalization. -/
theorem v53_eq (n : Fin 2048) (h w : Fin 2) (o : Fin 512) :
    res_main_v53 (F := Ideal) V (ix4 n h w o)
      = layerNorm (word 0x44000000#32) (fun k => res_main_v35 (F := Ideal) V (ix4 n h w k)) (args V).g1 (args V).e1 o := by
  pointwise [res_main_v53, res_main_call1_v5, res_main_call1_v8, sub_zero_word]
  rw [if_pos pos_512]
  rfl

/-- The second activation. -/
theorem v53_act (n : Fin 2048) (h w : Fin 2) (o : Fin 512) :
    gelu (res_main_v53 (F := Ideal) V (ix4 n h w o)) = y1 (args V) n h w o := by
  rw [v53_eq]; simp only [v35_eq]; rfl

/-- The third convolution. -/
theorem v65_eq (n : Fin 2048) (h w : Fin 1) (o : Fin 1024) :
    res_main_v65 (F := Ideal) V (ix4 n h w o) = c2 (args V) n o := by
  obtain rfl : h = 0 := Subsingleton.elim _ _
  obtain rfl : w = 0 := Subsingleton.elim _ _
  pointwise [res_main_v65]
  refine congrArg₂ (· + ·) ((dot2 _ _ n 0 0 o).trans ?_) rfl
  refine Finset.sum_congr rfl fun c _ => Finset.sum_congr rfl fun i _ => Finset.sum_congr rfl fun j _ => ?_
  refine congrArg₂ (· * ·) ?_ rfl
  rw [← v53_act]
  pointwise
  exact gelu_erfc _

/-- The third normalization. -/
theorem v83_eq (n : Fin 2048) (o : Fin 1024) :
    res_main_v83 (F := Ideal) V (ix4 n 0 0 o)
      = layerNorm (word 0x44800000#32) (fun k => res_main_v65 (F := Ideal) V (ix4 n 0 0 k)) (args V).g2 (args V).e2 o := by
  pointwise [res_main_v83, res_main_call2_v5, res_main_call2_v8, sub_zero_word]
  rw [if_pos pos_1024]
  rfl

/-- The third activation. -/
theorem v83_act (n : Fin 2048) (o : Fin 1024) :
    gelu (res_main_v83 (F := Ideal) V (ix4 n 0 0 o)) = y2 (args V) n o := by
  rw [v83_eq]; simp only [v65_eq]; rfl

/-- The linear map. -/
theorem v95_eq (b : Fin 32) (t : Fin 64) (d : Fin 1024) :
    res_main_v95 (F := Ideal) V (ix3 b t d) = y (args V) (Spec.frame b t) d := by
  pointwise [res_main_v95]
  refine congrArg₂ (fun p q : EReal => p + q) ?_ rfl
  refine @Finset.sum_congr (Fin 1024) EReal _ _ _ _ _ rfl fun k _ => ?_
  exact congrArg₂ (fun p q : EReal => p * q) ((gelu_erfc _).trans (v83_act V (Spec.frame b t) k)) rfl

/-- The cosines' and the sines' tables. -/
def re (k : Fin 32) (t : Fin 64) : EReal := word (lit0 (S32x64.rowMajor (ix2 k t)))
@[inherit_doc re]
def im (k : Fin 32) (t : Fin 64) : EReal := word (lit1 (S32x64.rowMajor (ix2 k t)))

/-- The real part. -/
theorem v97_eq (b k : Fin 32) (d : Fin 1024) :
    res_main_v97 (F := Ideal) V (ix3 b k d) = part (args V) re b k d := by
  pointwise [res_main_v97]
  exact @Finset.sum_congr (Fin 64) EReal _ _ _ _ _ rfl fun t _ => congrArg₂ (· * ·) (v95_eq V b t d) rfl

/-- The imaginary part. -/
theorem v99_eq (b k : Fin 32) (d : Fin 1024) :
    res_main_v99 (F := Ideal) V (ix3 b k d) = part (args V) im b k d := by
  pointwise [res_main_v99]
  exact @Finset.sum_congr (Fin 64) EReal _ _ _ _ _ rfl fun t _ => congrArg₂ (· * ·) (v95_eq V b t d) rfl

/-- The logits. -/
theorem v107_eq (b : Fin 32) (e : Fin 14) :
    res_main_v107 (F := Ideal) V (ix2 b e) = logit (args V) re im b e := by
  pointwise [res_main_v107]
  simp only [v97_eq, v99_eq]
  rfl

end Cert.ReferenceIdeal.Value

end
-- ==== Proof.Value.TableWant.lean ====
/- What the kernel's block-diagonal table should hold: the reference's tables of cosines and sines, and zero off the diagonal blocks. -/
module

public import Idealize.ShloMosaic.Lib.Pipeline.ValueKit
public import proofs.«01_k».proof.KernelIdeal
public import proofs.«01_k».proof.ReferenceIdeal

@[expose] public section

set_option maxRecDepth 16384

namespace Cert.KernelIdeal.Value

/-- The entry that row `r`, column `c` of the block-diagonal table should hold. -/
noncomputable def want (r c : ℕ) : BitVec 32 :=
  if r % 128 / 32 = c / 64 then
    (if r < 128 then Cert.ReferenceIdeal.lit0t (r % 32 * 64 + c % 64) else Cert.ReferenceIdeal.lit1t (r % 32 * 64 + c % 64))
  else 0#32

/-- The thirty-two rows of block `s` hold what they should. -/
def Block (s : ℕ) : Prop :=
  ∀ r : Fin 32, ∀ c : Fin 256, Cert.KernelIdeal.lit0t ((32 * s + r.val) * 256 + c.val) = want (32 * s + r.val) c.val

end Cert.KernelIdeal.Value
-- ==== Proof.Value.TableCosA.lean ====
/- The first two blocks of rows of the kernel's table: cosines. -/
module

public import proofs.«01_k».proof.Proof.Value.TableWant

@[expose] public section

set_option maxRecDepth 16384

namespace Cert.KernelIdeal.Value

/-- The first block of rows. -/
theorem block0 : Block 0 := by unfold Block; decide +kernel

/-- The second block of rows. -/
theorem block1 : Block 1 := by unfold Block; decide +kernel

end Cert.KernelIdeal.Value
-- ==== Proof.Value.TableCosB.lean ====
/- The next two blocks of rows of the kernel's table: cosines. -/
module

public import proofs.«01_k».proof.Proof.Value.TableWant

@[expose] public section

set_option maxRecDepth 16384

namespace Cert.KernelIdeal.Value

/-- The third block of rows. -/
theorem block2 : Block 2 := by unfold Block; decide +kernel

/-- The fourth block of rows. -/
theorem block3 : Block 3 := by unfold Block; decide +kernel

end Cert.KernelIdeal.Value
-- ==== Proof.Value.TableSinA.lean ====
/- The next two blocks of rows of the kernel's table: sines. -/
module

public import proofs.«01_k».proof.Proof.Value.TableCosA

@[expose] public section

set_option maxRecDepth 16384

namespace Cert.KernelIdeal.Value

/-- The fifth block of rows. -/
theorem block4 : Block 4 := by unfold Block; decide +kernel

/-- The sixth block of rows. -/
theorem block5 : Block 5 := by unfold Block; decide +kernel

end Cert.KernelIdeal.Value
-- ==== Proof.Value.TableSinB.lean ====
/- The last two blocks of rows of the kernel's table: sines. -/
module

public import proofs.«01_k».proof.Proof.Value.TableCosB

@[expose] public section

set_option maxRecDepth 16384

namespace Cert.KernelIdeal.Value

/-- The seventh block of rows. -/
theorem block6 : Block 6 := by unfold Block; decide +kernel

/-- The eighth block of rows. -/
theorem block7 : Block 7 := by unfold Block; decide +kernel

end Cert.KernelIdeal.Value
-- ==== Proof.Value.Table.lean ====
/- The kernel's block-diagonal table, entry by entry, is the reference's tables of cosines and sines, and zero off the diagonal blocks. -/
module

public import proofs.«01_k».proof.Proof.Value.TableCosA
public import proofs.«01_k».proof.Proof.Value.TableCosB
public import proofs.«01_k».proof.Proof.Value.TableSinA
public import proofs.«01_k».proof.Proof.Value.TableSinB

@[expose] public section

set_option maxRecDepth 16384

namespace Cert.KernelIdeal.Value

/-- Every block of rows holds what it should. -/
theorem block_all (s : Fin 8) : Block s.val := by
  fin_cases s
  · exact block0
  · exact block1
  · exact block2
  · exact block3
  · exact block4
  · exact block5
  · exact block6
  · exact block7

/-- Every entry is what it should be. -/
theorem table_eq (r c : Fin 256) : Cert.KernelIdeal.lit0t (r.val * 256 + c.val) = want r.val c.val := by
  have e : 32 * (r.val / 32) + r.val % 32 = r.val := by omega
  have h := block_all ⟨r.val / 32, by omega⟩ ⟨r.val % 32, by omega⟩ c
  rwa [e] at h

end Cert.KernelIdeal.Value
-- ==== Proof.Value.KernelRow.lean ====
/- The row that a grid point of the main kernel stores, as the problem's mean amplitudes. -/
module

public import proofs.«01_k».proof.Proof.Value.HostReads
public import proofs.«01_k».proof.Proof.Value.RefLayers
public import proofs.«01_k».proof.Proof.Value.Table

@[expose] public section

set_option maxRecDepth 16384

noncomputable section

namespace Cert.KernelIdeal.Value

open Cert.KernelIdeal.Gen Cert.KernelIdeal.Hand
open Idealize.ShloMosaic Idealize.ShloMosaic.TcCoe Cert.Spec
open Cert.ReferenceIdeal.Value (re im)

/-! ## The block-diagonal table -/

/-- A sum over 256 frames is one over four sequences of 64. -/
theorem sum_256 (f : Fin 256 → EReal) : ∑ k, f k = ∑ q : Fin 4, ∑ u : Fin 64, f ⟨q.val * 64 + u.val, by omega⟩ := by
  rw [← Fintype.sum_prod_type']
  refine (Fintype.sum_equiv (finProdFinEquiv (m := 4) (n := 64)) _ _ fun x => congrArg f (Fin.ext ?_)).symm
  show x.1.val * 64 + x.2.val = x.2.val + 64 * x.1.val
  omega

/-- The word zero is zero. -/
theorem word_zero : word 0x00000000#32 = 0 := by simp [word, Ideal.ofBits, Ideal.ieee]

/-- A row of a table that is zero outside one sequence's columns sums over that sequence. -/
theorem sum_block (T Y : Fin 256 → EReal) (tab : Fin 64 → EReal) (q : Fin 4)
    (hT : ∀ (p : Fin 4) (u : Fin 64), T ⟨p.val * 64 + u.val, by omega⟩ = if q = p then tab u else 0) :
    ∑ f, T f * Y f = ∑ u : Fin 64, Y ⟨q.val * 64 + u.val, by omega⟩ * tab u := by
  rw [sum_256]
  rw [Finset.sum_eq_single q]
  · exact Finset.sum_congr rfl fun u _ => by rw [hT, if_pos rfl, mul_comm]
  · intro p _ hp
    exact Finset.sum_eq_zero fun u _ => by rw [hT, if_neg (Ne.symm hp), zero_mul]
  · intro h; exact absurd (Finset.mem_univ q) h

/-- The sequence and the frequency of a lane. -/
def laneSeq (l : Fin 128) : Fin 4 := ⟨l.val / 32, by omega⟩
@[inherit_doc laneSeq] def laneFreq (l : Fin 128) : Fin 32 := ⟨l.val % 32, by omega⟩

/-- The cosine row of a lane. -/
theorem row_re (l : Fin 128) (p : Fin 4) (u : Fin 64) :
    word (lit0t (l.val * 256 + (p.val * 64 + u.val))) = if laneSeq l = p then re (laneFreq l) u else 0 := by
  refine (congrArg word (table_eq ⟨l.val, by omega⟩ ⟨p.val * 64 + u.val, by omega⟩)).trans ?_
  unfold want
  have e1 : l.val % 128 / 32 = l.val / 32 := by omega
  have e2 : (p.val * 64 + u.val) / 64 = p.val := by omega
  have e3 : (p.val * 64 + u.val) % 64 = u.val := by omega
  show word (if l.val % 128 / 32 = (p.val * 64 + u.val) / 64 then (if l.val < 128 then Cert.ReferenceIdeal.lit0t (l.val % 32 * 64 + (p.val * 64 + u.val) % 64) else _) else 0#32) = _
  rw [e1, e2, e3, if_pos l.isLt]
  by_cases h : l.val / 32 = p.val
  · rw [if_pos h, if_pos (Fin.ext h)]
    exact congrArg (fun q => word (Cert.ReferenceIdeal.lit0t q)) (Shape.rowMajor_val_two (d := ![32, 64]) (ix2 (laneFreq l) u)).symm
  · rw [if_neg h, if_neg (fun e => h (congrArg Fin.val e)), word_zero]

/-- The sine row of a lane. -/
theorem row_im (l : Fin 128) (p : Fin 4) (u : Fin 64) :
    word (lit0t ((128 + l.val) * 256 + (p.val * 64 + u.val))) = if laneSeq l = p then im (laneFreq l) u else 0 := by
  refine (congrArg word (table_eq ⟨128 + l.val, by omega⟩ ⟨p.val * 64 + u.val, by omega⟩)).trans ?_
  unfold want
  have e1 : (128 + l.val) % 128 / 32 = l.val / 32 := by omega
  have e2 : (p.val * 64 + u.val) / 64 = p.val := by omega
  have e3 : (p.val * 64 + u.val) % 64 = u.val := by omega
  have e4 : (128 + l.val) % 32 = l.val % 32 := by omega
  show word (if (128 + l.val) % 128 / 32 = (p.val * 64 + u.val) / 64 then (if 128 + l.val < 128 then _ else Cert.ReferenceIdeal.lit1t ((128 + l.val) % 32 * 64 + (p.val * 64 + u.val) % 64)) else 0#32) = _
  rw [e1, e2, e3, e4, if_neg (show ¬ 128 + l.val < 128 by omega)]
  by_cases h : l.val / 32 = p.val
  · rw [if_pos h, if_pos (Fin.ext h)]
    exact congrArg (fun q => word (Cert.ReferenceIdeal.lit1t q)) (Shape.rowMajor_val_two (d := ![32, 64]) (ix2 (laneFreq l) u)).symm
  · rw [if_neg h, if_neg (fun e => h (congrArg Fin.val e)), word_zero]

/-! ## The row -/

/-- The sequence of a grid point's lane. -/
def seqOf (t : Fin 8) (l : Fin 128) : Fin 32 := ⟨t.val * 4 + l.val / 32, by omega⟩

/-- The last step of the row: from blocks that hold the third layer, the linear map's arguments and the table. -/
theorem tail_read {a : Args} {t : Fin 8} {v : FVec Ideal S256x1024 .f32} {w : FVec Ideal S1024x1024 .f32} {b : FVec Ideal S1x1024 .f32} {T : FVec Ideal S256x256 .f32}
    (hv : ∀ f k, v (ix2 f k) = y2 a (fr t f) k) (hw : ∀ k d, w (ix2 k d) = a.fw k d) (hb : ∀ d, b (ix2 0 d) = a.fb d)
    (hT : ∀ r k : Fin 256, T (ix2 r k) = word (lit0t (r.val * 256 + k.val))) (l : Fin 128) :
    k0_pay1 (F := Ideal) v w b T (ix2 0 l) = amp a re im (seqOf t l) (laneFreq l) := by
  rw [tail_apply]
  have hy : ∀ (f : Fin 256) (d : Fin 1024), (∑ k : Fin 1024, v (ix2 f k) * w (ix2 k d)) + b (ix2 0 d) = y a (fr t f) d := fun f d =>
    congrArg₂ (fun p q : EReal => p + q) (@Finset.sum_congr (Fin 1024) EReal _ _ _ _ _ rfl fun k _ => congrArg₂ (fun p q : EReal => p * q) (hv f k) (hw k d)) (hb d)
  have hfr : ∀ u : Fin 64, fr t ⟨(laneSeq l).val * 64 + u.val, by omega⟩ = frame (seqOf t l) u := fun u => Fin.ext (by
    show 256 * t.val + (l.val / 32 * 64 + u.val) = (t.val * 4 + l.val / 32) * 64 + u.val
    omega)
  have h1 : ∀ d : Fin 1024, (∑ f : Fin 256, T (ix2 ⟨l.val, by omega⟩ f) * ((∑ k : Fin 1024, v (ix2 f k) * w (ix2 k d)) + b (ix2 0 d)))
      = part a re (seqOf t l) (laneFreq l) d := fun d => by
    refine (@Finset.sum_congr (Fin 256) EReal _ _ _ _ _ rfl fun f _ => congrArg (fun q : EReal => T (ix2 ⟨l.val, by omega⟩ f) * q) (hy f d)).trans ?_
    refine (sum_block (fun f => T (ix2 ⟨l.val, by omega⟩ f)) (fun f => y a (fr t f) d) (re (laneFreq l)) (laneSeq l)
      (fun p u => (hT _ _).trans (row_re l p u))).trans ?_
    exact Finset.sum_congr rfl fun u _ => by rw [hfr]
  have h2 : ∀ d : Fin 1024, (∑ f : Fin 256, T (ix2 ⟨128 + l.val, by omega⟩ f) * ((∑ k : Fin 1024, v (ix2 f k) * w (ix2 k d)) + b (ix2 0 d)))
      = part a im (seqOf t l) (laneFreq l) d := fun d => by
    refine (@Finset.sum_congr (Fin 256) EReal _ _ _ _ _ rfl fun f _ => congrArg (fun q : EReal => T (ix2 ⟨128 + l.val, by omega⟩ f) * q) (hy f d)).trans ?_
    refine (sum_block (fun f => T (ix2 ⟨128 + l.val, by omega⟩ f)) (fun f => y a (fr t f) d) (im (laneFreq l)) (laneSeq l)
      (fun p u => (hT _ _).trans (row_im l p u))).trans ?_
    exact Finset.sum_congr rfl fun u _ => by rw [hfr]
  unfold amp
  rw [word_1024, Ideal.div_coe (by norm_num), word_inv_1024]
  refine congrArg (fun q : EReal => q * ((1 / 1024 : ℝ) : EReal)) (@Finset.sum_congr (Fin 1024) EReal _ _ _ _ _ rfl fun d _ => congrArg Ideal.sqrt ?_)
  exact congrArg₂ (fun p q : EReal => p * p + q * q) (h1 d) (h2 d)

/-- The offsets of a load of the whole buffer. -/
theorem zero2 : (![0, 0] : Fin 2 → ℕ) = fun _ => 0 := by funext k; fin_cases k <;> rfl

/-- A load of the whole buffer is its contents. -/
theorem ld_x (x : FVec Ideal S16384x128 .f32) : View.ld (Val := Elt Ideal) (e' := .f32) x rx = x :=
  View.ld_unit_zero (Val := Elt Ideal) (e := .f32) (S := S16384x128) (off := ![0, 0]) zero2 _ x
@[inherit_doc ld_x] theorem ld_w0 (x : FVec Ideal S512x256 .f32) : View.ld (Val := Elt Ideal) (e' := .f32) x rw0 = x :=
  View.ld_unit_zero (Val := Elt Ideal) (e := .f32) (S := S512x256) (off := ![0, 0]) zero2 _ x
@[inherit_doc ld_x] theorem ld_256 (x : FVec Ideal S1x256 .f32) : View.ld (Val := Elt Ideal) (e' := .f32) x rv256 = x :=
  View.ld_unit_zero (Val := Elt Ideal) (e := .f32) (S := S1x256) (off := ![0, 0]) zero2 _ x
@[inherit_doc ld_x] theorem ld_512 (x : FVec Ideal S1x512 .f32) : View.ld (Val := Elt Ideal) (e' := .f32) x rv512 = x :=
  View.ld_unit_zero (Val := Elt Ideal) (e := .f32) (S := S1x512) (off := ![0, 0]) zero2 _ x
@[inherit_doc ld_x] theorem ld_1024 (x : FVec Ideal S1x1024 .f32) : View.ld (Val := Elt Ideal) (e' := .f32) x rv1024 = x :=
  View.ld_unit_zero (Val := Elt Ideal) (e := .f32) (S := S1x1024) (off := ![0, 0]) zero2 _ x
@[inherit_doc ld_x] theorem ld_fw (x : FVec Ideal S1024x1024 .f32) : View.ld (Val := Elt Ideal) (e' := .f32) x rfw = x :=
  View.ld_unit_zero (Val := Elt Ideal) (e := .f32) (S := S1024x1024) (off := ![0, 0]) zero2 _ x
@[inherit_doc ld_x] theorem ld_bd (x : FVec Ideal S256x256 .f32) : View.ld (Val := Elt Ideal) (e' := .f32) x rbd = x :=
  View.ld_unit_zero (Val := Elt Ideal) (e := .f32) (S := S256x256) (off := ![0, 0]) zero2 _ x

/-- A load of one slice of the second weights; -/
theorem ld_w1_0 (x : FVec Ideal S4x256x512 .f32) (k : Fin 256) (o : Fin 512) : View.ld (Val := Elt Ideal) (e' := .f32) x rw1_0 (ix3 0 k o) = x (ix3 ⟨0 * 2 + 0, by omega⟩ k o) := by
  rw [View.ld_unit]; pointwise []
@[inherit_doc ld_w1_0] theorem ld_w1_1 (x : FVec Ideal S4x256x512 .f32) (k : Fin 256) (o : Fin 512) : View.ld (Val := Elt Ideal) (e' := .f32) x rw1_1 (ix3 0 k o) = x (ix3 ⟨0 * 2 + 1, by omega⟩ k o) := by
  rw [View.ld_unit]; pointwise []
@[inherit_doc ld_w1_0] theorem ld_w1_2 (x : FVec Ideal S4x256x512 .f32) (k : Fin 256) (o : Fin 512) : View.ld (Val := Elt Ideal) (e' := .f32) x rw1_2 (ix3 0 k o) = x (ix3 ⟨1 * 2 + 0, by omega⟩ k o) := by
  rw [View.ld_unit]; pointwise []
@[inherit_doc ld_w1_0] theorem ld_w1_3 (x : FVec Ideal S4x256x512 .f32) (k : Fin 256) (o : Fin 512) : View.ld (Val := Elt Ideal) (e' := .f32) x rw1_3 (ix3 0 k o) = x (ix3 ⟨1 * 2 + 1, by omega⟩ k o) := by
  rw [View.ld_unit]; pointwise []

/-- and of the third. -/
theorem ld_w2_0 (x : FVec Ideal S4x512x1024 .f32) (k : Fin 512) (o : Fin 1024) : View.ld (Val := Elt Ideal) (e' := .f32) x rw2_0 (ix3 0 k o) = x (ix3 ⟨0 * 2 + 0, by omega⟩ k o) := by
  rw [View.ld_unit]; pointwise []
@[inherit_doc ld_w2_0] theorem ld_w2_1 (x : FVec Ideal S4x512x1024 .f32) (k : Fin 512) (o : Fin 1024) : View.ld (Val := Elt Ideal) (e' := .f32) x rw2_1 (ix3 0 k o) = x (ix3 ⟨0 * 2 + 1, by omega⟩ k o) := by
  rw [View.ld_unit]; pointwise []
@[inherit_doc ld_w2_0] theorem ld_w2_2 (x : FVec Ideal S4x512x1024 .f32) (k : Fin 512) (o : Fin 1024) : View.ld (Val := Elt Ideal) (e' := .f32) x rw2_2 (ix3 0 k o) = x (ix3 ⟨1 * 2 + 0, by omega⟩ k o) := by
  rw [View.ld_unit]; pointwise []
@[inherit_doc ld_w2_0] theorem ld_w2_3 (x : FVec Ideal S4x512x1024 .f32) (k : Fin 512) (o : Fin 1024) : View.ld (Val := Elt Ideal) (e' := .f32) x rw2_3 (ix3 0 k o) = x (ix3 ⟨1 * 2 + 1, by omega⟩ k o) := by
  rw [View.ld_unit]; pointwise []

/-- The four positions' blocks, by position. -/
def four (x0 : FVec Ideal S16384x128 .f32) (x1 : FVec Ideal S512x256 .f32) (x5 x6 x7 : FVec Ideal S1x256 .f32) (A B : Fin 2) : FVec Ideal S1024x256 .f32 :=
  if A = 0 then (if B = 0 then hA (F := Ideal) x0 x1 x5 x6 x7 else hB (F := Ideal) x0 x1 x5 x6 x7)
  else (if B = 0 then hC (F := Ideal) x0 x1 x5 x6 x7
    else mulf (hD1 (F := Ideal) x0 x1 x5 x6 x7) (addf (k0_pay22 (F := Ideal)) (hD2 (F := Ideal) x0 x1 x5 x6 x7)))

section row
variable {a : Args} (H : FineArgs a) {t : Fin 8} {x0 : FVec Ideal S16384x128 .f32} {x1 : FVec Ideal S512x256 .f32} {x2 : FVec Ideal S4x256x512 .f32}
    {x3 : FVec Ideal S4x512x1024 .f32} {x4 : FVec Ideal S1024x1024 .f32} {x5 x6 x7 : FVec Ideal S1x256 .f32} {x8 x9 x10 : FVec Ideal S1x512 .f32}
    {x11 x12 x13 x14 : FVec Ideal S1x1024 .f32} (R : Reads a t x0 x1 x2 x3 x4 x5 x6 x7 x8 x9 x10 x11 x12 x13 x14)

include H R in
/-- Each of the four holds the first layer at its position. -/
theorem four_read (A B : Fin 2) (p : Fin 1024) (o : Fin 256) : four x0 x1 x5 x6 x7 A B (ix2 p o) = y0 a (fr t (prow p)) (dbl (ph p) A) (dbl (pw p) B) o := by
  unfold four
  rw [hA_eq, hB_eq, hC_eq, hD_eq, ld_x, ld_w0, ld_256, ld_256, ld_256]
  fin_cases A <;> fin_cases B
  · exact layer0 H R 0 0 _ _ _ _ p o
  · exact layer0 H R 0 1 _ _ _ _ p o
  · exact layer0 H R 1 0 _ _ _ _ p o
  · exact layer0 H R 1 1 _ _ _ _ p o

include H R in
/-- The stored row at a lane is the mean amplitude of the lane's sequence and frequency. -/
theorem row_read {x15 : FVec Ideal S256x256 .f32} (hT : ∀ r k : Fin 256, x15 (ix2 r k) = word (lit0t (r.val * 256 + k.val))) (l : Fin 128) :
    row (F := Ideal) x0 x1 x2 x3 x4 x5 x6 x7 x8 x9 x10 x11 x12 x13 x14 x15 (ix2 0 l) = amp a re im (seqOf t l) (laneFreq l) := by
  rw [row_eq, ld_512, ld_512, ld_512, ld_1024, ld_1024, ld_1024, ld_1024, ld_fw, ld_bd]
  refine tail_read (layer2 H R _ (conv2_read R _ _ _ _ _ (layer1 H R _ (conv1_read R (four x0 x1 x5 x6 x7) _ _ _ _ (four_read H R) ?_ ?_ ?_ ?_)) ?_ ?_ ?_ ?_)) R.fw R.fb hT l
  · exact fun k o => (ld_w1_0 x2 k o).trans (R.w1 0 0 k o)
  · exact fun k o => (ld_w1_1 x2 k o).trans (R.w1 0 1 k o)
  · exact fun k o => (ld_w1_2 x2 k o).trans (R.w1 1 0 k o)
  · exact fun k o => (ld_w1_3 x2 k o).trans (R.w1 1 1 k o)
  · exact fun k o => (ld_w2_0 x3 k o).trans (R.w2 0 0 k o)
  · exact fun k o => (ld_w2_1 x3 k o).trans (R.w2 0 1 k o)
  · exact fun k o => (ld_w2_2 x3 k o).trans (R.w2 1 0 k o)
  · exact fun k o => (ld_w2_3 x3 k o).trans (R.w2 1 1 k o)

end row

variable (m : (ℓ : Loc nD τ sig) → Buf (Elt Ideal) ℓ) (c : Dev nD)

/-- The array of rows holds the mean amplitudes. -/
theorem rows_read (H : FineArgs (kargs m c)) (t : Fin 8) (l : Fin 128) :
    rows (V1 m) c (ix2 t l) = amp (kargs m c) re im (seqOf t l) (laneFreq l) := by
  have e : lane l = ix2 0 l := by funext k; fin_cases k <;> rfl
  refine Eq.trans ?_ (row_read H (reads m c t) (fun r k => (blk15 m c t r k).trans (entry_bd m c r k)) l)
  show rowAt (V1 m) c (pt t) (lane l) = _
  rw [e]
  rfl

end Cert.KernelIdeal.Value
-- ==== Proof.Value.TopTwo.lean ====
/- The two greatest of fourteen numbers, ties to the lower index: found by a stable sort, and by a maximum and a least index. -/
module

public import Idealize.ShloMosaic.Lib.SortFacts
public import proofs.«01_k».proof.Proof.Value.Finite

@[expose] public section

noncomputable section

namespace Cert.Spec

open Idealize.ShloMosaic

/-- `p` is the first place of the greatest entry, `q` the first of the greatest among the rest. -/
structure Top (x : Fin 14 → EReal) (p q : Fin 14) : Prop where
  ne : q ≠ p
  le1 : ∀ k, x k ≤ x p
  first1 : ∀ k, k < p → x k < x p
  le2 : ∀ k, k ≠ p → x k ≤ x q
  first2 : ∀ k, k ≠ p → k < q → x k < x q

/-- A set that is not empty has a first place of its greatest entry. -/
theorem first_max (x : Fin 14 → EReal) (s : Finset (Fin 14)) (hs : s.Nonempty) :
    ∃ p ∈ s, (∀ k ∈ s, x k ≤ x p) ∧ ∀ k ∈ s, k < p → x k < x p := by
  obtain ⟨q, hq, hmax⟩ := s.exists_max_image x hs
  have hne : (s.filter fun k => x k = x q).Nonempty := ⟨q, Finset.mem_filter.mpr ⟨hq, rfl⟩⟩
  obtain ⟨p, hp, hmin⟩ := (s.filter fun k => x k = x q).exists_min_image id hne
  obtain ⟨hps, hpq⟩ := Finset.mem_filter.mp hp
  refine ⟨p, hps, fun k hk => hpq ▸ hmax k hk, fun k hk hkp => ?_⟩
  refine lt_of_le_of_ne (hpq ▸ hmax k hk) fun e => ?_
  exact absurd (hmin k (Finset.mem_filter.mpr ⟨hk, e.trans hpq⟩)) (not_le.mpr hkp)

/-- The two places exist. -/
theorem exists_top (x : Fin 14 → EReal) : ∃ p q, Top x p q := by
  obtain ⟨p, -, h1, h2⟩ := first_max x Finset.univ ⟨0, Finset.mem_univ _⟩
  obtain ⟨q, hq, h3, h4⟩ := first_max x (Finset.univ.erase p) (by
    refine Finset.card_pos.mp ?_
    rw [Finset.card_erase_of_mem (Finset.mem_univ p)]
    decide)
  have hm : ∀ k, k ≠ p → k ∈ Finset.univ.erase p := fun k hk => Finset.mem_erase.mpr ⟨hk, Finset.mem_univ k⟩
  exact ⟨p, q, Finset.ne_of_mem_erase hq, fun k => h1 k (Finset.mem_univ k), fun k => h2 k (Finset.mem_univ k),
    fun k hk => h3 k (hm k hk), fun k hk => h4 k (hm k hk)⟩

/-- The two gates of a row: the softmax over its two greatest entries. -/
def gate (x : Fin 14 → EReal) (p q e : Fin 14) : EReal :=
  if e = p then Ideal.div 1 (1 + Ideal.exp (x q - x p)) else if e = q then Ideal.div (Ideal.exp (x q - x p)) (1 + Ideal.exp (x q - x p)) else 0

/-! ## By a stable sort -/

/-- A stable sort of an ascending list keeps the order of entries neither of which goes before the other. -/
theorem stable_pairwise {n : ℕ} (R : Fin n → Fin n → Bool) (hasymm : ∀ a b, R a b = true → R b a = false)
    (hnt : ∀ a b c, R a b = false → R b c = false → R a c = false) (l : List (Fin n)) (hl : l.Pairwise (· < ·)) :
    (stableSort R l).Pairwise fun b c => R c b = false ∧ (R b c = true ∨ b < c) := by
  have insert (a : Fin n) : ∀ l : List (Fin n), (∀ c ∈ l, a < c) → (l.Pairwise fun b c => R c b = false ∧ (R b c = true ∨ b < c)) →
      (insertBefore R a l).Pairwise fun b c => R c b = false ∧ (R b c = true ∨ b < c) := by
    intro l
    induction l with
    | nil => intro _ _; exact List.pairwise_singleton _ _
    | cons b l ih =>
      intro ha hp
      rw [List.pairwise_cons] at hp
      unfold insertBefore
      split
      · rename_i h
        refine List.pairwise_cons.mpr ⟨fun c hc => ?_, ih (fun c hc => ha c (List.mem_cons_of_mem _ hc)) hp.2⟩
        rcases List.mem_cons.mp ((perm_insertBefore R a l).mem_iff.mp hc) with rfl | hc'
        · exact ⟨hasymm _ _ h, Or.inl h⟩
        · exact hp.1 c hc'
      · rename_i h
        have hba : R b a = false := by simpa using h
        refine List.pairwise_cons.mpr ⟨fun c hc => ⟨?_, Or.inr (ha c hc)⟩, List.pairwise_cons.mpr hp⟩
        rcases List.mem_cons.mp hc with rfl | hc'
        · exact hba
        · exact hnt c b a (hp.1 c hc').1 hba
  induction l with
  | nil => exact List.Pairwise.nil
  | cons a l ih =>
    rw [List.pairwise_cons] at hl
    unfold stableSort
    exact insert a _ (fun c hc => hl.1 c ((perm_stableSort R l).mem_iff.mp hc)) (ih hl.2)

/-- The same of the sorting permutation's positions. -/
theorem sorted_stable {n : ℕ} (R : Fin n → Fin n → Bool) (hasymm : ∀ a b, R a b = true → R b a = false)
    (hnt : ∀ a b c, R a b = false → R b c = false → R a c = false) (i j : Fin n) (h : i < j) :
    R (sortedFrom R j) (sortedFrom R i) = false ∧ (R (sortedFrom R i) (sortedFrom R j) = true ∨ sortedFrom R i < sortedFrom R j) := by
  have hp : ∀ a b : Fin (sortPositions n R).length, a < b → R ((sortPositions n R).get b) ((sortPositions n R).get a) = false
      ∧ (R ((sortPositions n R).get a) ((sortPositions n R).get b) = true ∨ (sortPositions n R).get a < (sortPositions n R).get b) :=
    List.pairwise_iff_get.mp (stable_pairwise R hasymm hnt (List.finRange n) (List.pairwise_lt_finRange n))
  unfold sortedFrom
  exact hp _ _ (by simp only [Fin.lt_def, Fin.val_cast]; exact h)

section sort
variable {x : Fin 14 → EReal} {p q : Fin 14} (H : Top x p q) {R : Fin 14 → Fin 14 → Bool} (hR : ∀ a b, R a b = decide (x b < x a))
include hR

/-- Two positions of the sorted row: the earlier is greater, or equal and of lower index. -/
theorem sorted_pair (i j : Fin 14) (h : i < j) :
    x (sortedFrom R j) ≤ x (sortedFrom R i) ∧ (x (sortedFrom R j) < x (sortedFrom R i) ∨ sortedFrom R i < sortedFrom R j) := by
  have e := sorted_stable R
    (fun a b hab => by rw [hR] at hab ⊢; exact decide_eq_false (not_lt.mpr (of_decide_eq_true hab).le))
    (fun a b c hab hbc => by
      rw [hR] at hab hbc ⊢
      exact decide_eq_false (not_lt.mpr ((not_lt.mp (of_decide_eq_false hab)).trans (not_lt.mp (of_decide_eq_false hbc))))) i j h
  rw [hR, hR] at e
  exact ⟨not_lt.mp (of_decide_eq_false e.1), e.2.imp_left of_decide_eq_true⟩

include H

/-- The sorted row begins with the greatest entry's first place, -/
theorem sorted_zero : sortedFrom R 0 = p := by
  obtain ⟨i, hi⟩ := sortedFrom_surjective R p
  by_cases h : i = 0
  · rw [← h, hi]
  · have := sorted_pair hR 0 i (Fin.pos_of_ne_zero h)
    rw [hi] at this
    rcases this.2 with h1 | h1
    · exact absurd (H.le1 _) (not_le.mpr h1)
    · exact absurd (H.first1 _ h1) (not_lt.mpr this.1)

/-- and goes on with that of the rest. -/
theorem sorted_one : sortedFrom R 1 = q := by
  obtain ⟨i, hi⟩ := sortedFrom_surjective R q
  have h0 := sorted_zero H hR
  by_cases h : i = 1
  · rw [← h, hi]
  · have hi0 : i ≠ 0 := fun e => H.ne (by rw [← hi, e, h0])
    have hne : sortedFrom R 1 ≠ p := fun e => absurd (sortedFrom_injective R (e.trans h0.symm)) (by decide)
    have := sorted_pair hR 1 i (by
      have h1 : i.val ≠ 0 := fun e => hi0 (Fin.ext e)
      have h2 : i.val ≠ 1 := fun e => h (Fin.ext e)
      show (1 : ℕ) < i.val
      omega)
    rw [hi] at this
    rcases this.2 with h1 | h1
    · exact absurd (H.le2 _ hne) (not_le.mpr h1)
    · exact absurd (H.first2 _ hne h1) (not_lt.mpr this.1)

end sort

/-! ## By a maximum and a least index -/

/-- A maximum from the least value is the entry that none exceeds. -/
theorem fold_max (f : Fin 14 → EReal) (p : Fin 14) (h : ∀ k, f k ≤ f p) : Finset.fold max (⊥ : EReal) f Finset.univ = f p :=
  le_antisymm ((Finset.fold_max_le (f p)).mpr ⟨bot_le, fun k _ => h k⟩) ((Finset.le_fold_max (f p)).mpr (Or.inr ⟨p, Finset.mem_univ p, le_rfl⟩))

/-- The lesser of two words is bounded below where both are. -/
theorem sle_minsi (a b c : BitVec 32) : a.toInt ≤ (IntOp.minsi b c).toInt ↔ a.toInt ≤ b.toInt ∧ a.toInt ≤ c.toInt := by
  unfold IntOp.minsi
  rw [BitVec.slt_eq_decide]
  by_cases h : b.toInt < c.toInt
  · rw [if_pos (decide_eq_true h)]; omega
  · rw [if_neg (by simpa using h)]; omega

/-- A small index as a word, read back. -/
theorem word_index (k : Fin 14) : (BitVec.ofNat 32 k.val).toInt = (k.val : ℤ) := by revert k; decide

/-- The least index at which a condition holds. -/
theorem fold_first (P : Fin 14 → Prop) [DecidablePred P] (p : Fin 14) (hp : P p) (hf : ∀ k, k < p → ¬ P k) :
    Finset.fold IntOp.minsi 2147483647#32 (fun k => if P k then BitVec.ofNat 32 k.val else 15#32) Finset.univ = BitVec.ofNat 32 p.val := by
  have key (c : BitVec 32) := Finset.fold_op_rel_iff_and (op := IntOp.minsi) (f := fun k : Fin 14 => if P k then BitVec.ofNat 32 k.val else 15#32)
    (b := 2147483647#32) (s := Finset.univ) (r := fun a b : BitVec 32 => a.toInt ≤ b.toInt) (fun {a b c} => sle_minsi a b c) (c := c)
  refine BitVec.eq_of_toInt_eq (le_antisymm ?_ ?_)
  · have h := ((key _).mp (le_refl _)).2 p (Finset.mem_univ p)
    rwa [if_pos hp] at h
  · refine (key _).mpr ⟨?_, fun k _ => ?_⟩
    · rw [word_index]; have : (2147483647#32 : BitVec 32).toInt = 2147483647 := by decide
      omega
    · by_cases h : P k
      · rw [if_pos h, word_index, word_index]
        exact_mod_cast not_lt.mp fun e => hf k e h
      · rw [if_neg h, word_index]; have : (15#32 : BitVec 32).toInt = 15 := by decide
        omega

end Cert.Spec
-- ==== Proof.Value.KernelGate.lean ====
/- The gate kernel's two results: the gates of each row of logits, and how often each is positive. -/
module

public import proofs.«01_k».proof.Proof.Value.KernelFirst
public import proofs.«01_k».proof.Proof.Value.TopTwo
public import proofs.«01_k».proof.Proof.Run.KernelIdealGate

@[expose] public section

set_option maxRecDepth 16384

noncomputable section

namespace Cert.KernelIdeal.Value

open Cert.KernelIdeal Cert.KernelIdeal.Gen Cert.KernelIdeal.Hand
open Idealize.ShloMosaic Cert.Spec

/-- The greatest negative word is minus infinity. -/
theorem word_bot : word 0xFF800000#32 = ⊥ := by simp [word, Ideal.ofBits, Ideal.ieee]

/-- The zero word is zero. -/
theorem word_zero_gate : word 0x00000000#32 = 0 := by simp [word, Ideal.ofBits, Ideal.ieee]

/-- The zero word, as the float it stands for. -/
theorem zero_read : (FloatOps.ofBits (F := Ideal) .f32 0x00000000#32 : Ideal .f32) = (0 : EReal) := word_zero_gate

/-- Two small indices as words are equal when they are. -/
theorem index_eq (e p : Fin 14) : IntOp.cmpi .eq (BitVec.ofNat 32 e.val) (BitVec.ofNat 32 p.val) = BitVec.ofBool (decide (e = p)) := by
  revert e p; decide

/-- A choice by a comparison of indices. -/
theorem select_index {α : Type} (e p : Fin 14) (u v : α) :
    Scalar.select (IntOp.cmpi .eq (BitVec.ofNat 32 e.val) (BitVec.ofNat 32 p.val)) u v = if e = p then u else v := by
  rw [index_eq]
  by_cases h : e = p
  · rw [if_pos h, decide_eq_true h]; rfl
  · rw [if_neg h, decide_eq_false h]; rfl

section gate
variable (a : FVec Ideal S32x32 .f32) (g : FVec Ideal S32x14 .f32) (b : Fin 32) {x : Fin 14 → EReal} {p q : Fin 14}
    (hx : ∀ e, x e = ∑ k : Fin 32, a (ix2 b k) * g (ix2 k e)) (H : Top x p q)

include hx in
/-- The logits. -/
theorem pay3_read (e : Fin 14) : k1_pay3 (F := Ideal) a g (ix2 b e) = x e := by
  pointwise [k1_pay3]
  exact (hx e).symm

include hx H in
/-- The greatest logit, -/
theorem pay4_read : k1_pay4 (F := Ideal) a g (ix2 b 0) = x p := by
  pointwise [k1_pay4, pay3_read a g b hx]
  exact (congrArg (fun z => Finset.fold max z x Finset.univ) word_bot).trans (fold_max x p H.le1)

include hx H in
/-- the first place it is at, -/
theorem pay5_read : k1_pay5 (F := Ideal) a g (ix2 b 0) = BitVec.ofNat 32 p.val := by
  pointwise [k1_pay5, pay3_read a g b hx]
  rw [pay4_read a g b hx H]
  exact fold_first (fun k => x k = x p) p rfl fun k hk => (H.first1 k hk).ne

include hx H in
/-- the logits without it, -/
theorem pay6_read (e : Fin 14) : k1_pay6 (F := Ideal) a g (ix2 b e) = if e = p then ⊥ else x e := by
  pointwise [k1_pay6, pay3_read a g b hx]
  rw [pay5_read a g b hx H, select_index]
  exact congrArg (fun z => if e = p then z else x e) word_bot

include hx H in
/-- the greatest of these, -/
theorem pay7_read : k1_pay7 (F := Ideal) a g (ix2 b 0) = x q := by
  pointwise [k1_pay7, pay6_read a g b hx H]
  refine (congrArg (fun z => Finset.fold max z (fun e => if e = p then ⊥ else x e) Finset.univ) word_bot).trans ((fold_max _ q fun k => ?_).trans (if_neg H.ne))
  rw [if_neg H.ne]
  by_cases h : k = p
  · rw [if_pos h]; exact bot_le
  · rw [if_neg h]; exact H.le2 k h

include hx H in
/-- and the first place that one is at. -/
theorem pay10_read (hf : Fine (x q)) (e : Fin 14) : k1_pay10 (F := Ideal) a g (ix2 b e) = BitVec.ofBool (decide (e = q)) := by
  pointwise [k1_pay10, pay6_read a g b hx H]
  rw [pay7_read a g b hx H, ← index_eq]
  refine congrArg (IntOp.cmpi .eq (BitVec.ofNat 32 e.val)) (fold_first (fun k => (if k = p then ⊥ else x k) = x q) q (if_neg H.ne) fun k hk => ?_)
  by_cases h : k = p
  · rw [if_pos h]
    obtain ⟨r, hr⟩ := hf
    rw [hr]
    exact (EReal.bot_lt_coe r).ne
  · rw [if_neg h]; exact (H.first2 k h hk).ne

include hx H in
/-- The gates. -/
theorem gates_read (hf : Fine (x q)) (e : Fin 14) :
    k1_pay1 (F := Ideal) (k1_pay9 (F := Ideal) a g) (k1_pay10 (F := Ideal) a g) (Scalar.ofBits .f32 0x00000000#32) (k1_pay11 (F := Ideal) a g) (ix2 b e) = gate x p q e := by
  pointwise [k1_pay1, k1_pay9, k1_pay11, k1_pay8, pay4_read a g b hx H, pay7_read a g b hx H, pay5_read a g b hx H, pay10_read a g b hx H hf]
  rw [select_index]
  unfold gate
  by_cases h : e = p
  · have hq : e ≠ q := fun h' => H.ne (h'.symm.trans h)
    rw [if_pos h, if_pos h, if_neg hq, add_zero]
  · rw [if_neg h, if_neg h, zero_add]

end gate

/-- Offsets that are all zero. -/
theorem zeros : (![0, 0] : Fin 2 → ℕ) = fun _ => 0 := by funext k; fin_cases k <;> rfl

/-- Reading the whole amplitudes' buffer. -/
theorem ld_amp (a : FVec Ideal S32x32 .f32) : View.ld (Val := Elt Ideal) (e' := .f32) a ramp = a :=
  View.ld_unit_zero (Val := Elt Ideal) (e := .f32) (S := S32x32) (off := ![0, 0]) zeros _ a

/-- Reading the whole weights' buffer. -/
theorem ld_wg (g : FVec Ideal S32x14 .f32) : View.ld (Val := Elt Ideal) (e' := .f32) g rwg = g :=
  View.ld_unit_zero (Val := Elt Ideal) (e := .f32) (S := S32x14) (off := ![0, 0]) zeros _ g

/-- The gates' buffer holds what is stored, -/
theorem outGates_eq (a : FVec Ideal S32x32 .f32) (g : FVec Ideal S32x14 .f32) : outGates (F := Ideal) a g = gatesOf (F := Ideal) a g :=
  View.canon_unit_zero zeros _ _

/-- and so does the loads'. -/
theorem outLoad_eq (a : FVec Ideal S32x32 .f32) (g : FVec Ideal S32x14 .f32) : outLoad (F := Ideal) a g = loadOf (F := Ideal) a g :=
  View.canon_unit_zero zeros _ _

/-- What is stored as gates, -/
theorem gatesOf_eq (a : FVec Ideal S32x32 .f32) (g : FVec Ideal S32x14 .f32) :
    gatesOf (F := Ideal) a g = k1_pay1 (F := Ideal) (k1_pay9 (F := Ideal) a g) (k1_pay10 (F := Ideal) a g) (Scalar.ofBits .f32 0x00000000#32) (k1_pay11 (F := Ideal) a g) := by
  unfold gatesOf
  rw [ld_amp, ld_wg]

/-- and as loads. -/
theorem loadOf_eq (a : FVec Ideal S32x32 .f32) (g : FVec Ideal S32x14 .f32) :
    loadOf (F := Ideal) a g = k1_pay2 (F := Ideal) (k1_pay9 (F := Ideal) a g) (k1_pay10 (F := Ideal) a g) (Scalar.ofBits .f32 0x00000000#32) (k1_pay11 (F := Ideal) a g) := by
  unfold loadOf
  rw [ld_amp, ld_wg]

/-- The gates the kernel writes. -/
theorem gatesOf_read (a : FVec Ideal S32x32 .f32) (g : FVec Ideal S32x14 .f32) (b : Fin 32) {x : Fin 14 → EReal} {p q : Fin 14}
    (hx : ∀ e, x e = ∑ k : Fin 32, a (ix2 b k) * g (ix2 k e)) (H : Top x p q) (hf : Fine (x q)) (e : Fin 14) :
    outGates (F := Ideal) a g (ix2 b e) = gate x p q e := by
  rw [outGates_eq, gatesOf_eq]
  exact gates_read a g b hx H hf e

/-- How often each gate is positive, as the kernel counts. -/
theorem loadOf_read (a : FVec Ideal S32x32 .f32) (g : FVec Ideal S32x14 .f32) (G : Fin 32 → Fin 14 → EReal)
    (hG : ∀ b e, outGates (F := Ideal) a g (ix2 b e) = G b e) (e : Fin 14) :
    outLoad (F := Ideal) a g (ix2 0 e) = Finset.fold IntOp.addi 0#32 (fun b => BitVec.setWidth 32 (BitVec.ofBool (decide (0 < G b e)))) Finset.univ := by
  rw [outLoad_eq, loadOf_eq]
  pointwise [k1_pay2]
  refine congrArg (fun f : Fin 32 → BitVec 32 => Finset.fold IntOp.addi 0#32 f Finset.univ) (funext fun b => ?_)
  rw [← hG b e, outGates_eq, gatesOf_eq, zero_read]
  rfl

end Cert.KernelIdeal.Value
-- ==== Proof.Value.GateReads.lean ====
/- The gate kernel's blocks, as the main kernel's rows and an argument of the program; and where the results end. -/
module

public import proofs.«01_k».proof.Proof.Value.HostReads

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.SL Idealize.SL.Sem Cert.Spec

variable (m : (ℓ : Loc nD τ sig) → Buf (Elt Ideal) ℓ) (c : Dev nD)

/-- The gate kernel's blocks are whole arrays. -/
theorem idxA : ∀ t : Fin cfg1.N, win1_0.index t (0 : Fin 2) = 0 ∧ win1_0.index t (1 : Fin 2) = 0 := (by decide +kernel : ∀ t : Fin grid1.N, _)
@[inherit_doc idxA] theorem idxB : ∀ t : Fin cfg1.N, win1_1.index t (0 : Fin 2) = 0 ∧ win1_1.index t (1 : Fin 2) = 0 := (by decide +kernel : ∀ t : Fin grid1.N, _)

/-- The amplitudes' block. -/
theorem blkA (b k : Fin 32) :
    (iblk1 (W3 m) c 0 g0 : FVec Ideal S32x32 .f32) (ix2 b k) = (W3 m c (Proc.devRef .tc main_v18) : FVec Ideal S32x32 .f32) (ix2 b k) := by
  blk_ext [iblk1, idxA g0]

/-- The gate weights' block. -/
theorem blkB (k : Fin 32) (e : Fin 14) :
    (iblk1 (W3 m) c 1 g0 : FVec Ideal S32x14 .f32) (ix2 k e) = (W3 m c (Proc.devRef .tc main_arg16) : FVec Ideal S32x14 .f32) (ix2 k e) := by
  blk_ext [iblk1, idxB g0]

/-- The amplitudes are the main kernel's rows, four sequences to a row. -/
theorem entry_amp (b k : Fin 32) :
    (W3 m c (Proc.devRef .tc main_v18) : FVec Ideal S32x32 .f32) (ix2 b k)
      = (rows (V1 m) c : FVec Ideal S8x128 .f32) (ix2 ⟨b.val / 4, by omega⟩ ⟨b.val % 4 * 32 + k.val, by omega⟩) := by
  dsimp only [W3]
  entry_read
  pointwise []
  exact congrFun (Function.update_self _ _ _) _

/-- The gate weights are an argument of the program. -/
theorem entry_gate (k : Fin 32) (e : Fin 14) :
    (W3 m c (Proc.devRef .tc main_arg16) : FVec Ideal S32x14 .f32) (ix2 k e) = (kargs m c).wg k e := by
  dsimp only [W3]
  entry_read
  have e1 : W2 m c (Proc.devRef .tc main_arg16) = V1 m c (Proc.devRef .tc main_arg16) :=
    Function.update_of_ne (StableHlo.devRef_ne_of_ne (by decide)) _ _
  exact (congrFun (e1.trans (V1_of m c main_arg16 (by decide))) _).trans rfl

/-- Where the gates end. -/
theorem end_gates : (V5 m (outs m) c (Proc.devRef .tc main_v19_0) : FVec Ideal S32x14 .f32) = outGates (F := Ideal) (iblk1 (W3 m) c 0 g0) (iblk1 (W3 m) c 1 g0) := by
  refine (V5_of m (outs m) c main_v19_0 (by decide)).trans ?_
  unfold V4
  refine (Function.update_of_ne (StableHlo.devRef_ne_of_ne (by decide)) _ _).trans ?_
  exact (Function.update_self _ _ _).trans (outs_19_0 m 4 c)

/-- Where the loads end. -/
theorem end_load (e : Fin 14) : (V5 m (outs m) c (Proc.devRef .tc main_v20) : IVec S14 32) (ix1 e) = outLoad (F := Ideal) (iblk1 (W3 m) c 0 g0) (iblk1 (W3 m) c 1 g0) (ix2 0 e) := by
  dsimp only [V5]
  entry_read
  pointwise []
  have e1 : (V4 m (outs m) c (Proc.devRef .tc main_v19_1) : IVec S1x14 32) = outLoad (F := Ideal) (iblk1 (W3 m) c 0 g0) (iblk1 (W3 m) c 1 g0) := by
    unfold V4
    exact (Function.update_self _ _ _).trans (outs_19_1 m 4 c)
  exact congrFun e1 _

end Cert.KernelIdeal.Value

end
-- ==== Proof.Value.TableFinite.lean ====
/- The reference's tables of cosines and sines hold no infinity: no word has the exponent that stands for one. -/
module

public import proofs.«01_k».proof.Proof.Value.TableWant

@[expose] public section

set_option maxRecDepth 16384

namespace Cert.ReferenceIdeal.Value

/-- The cosines. -/
theorem plain_cos : ∀ k : Fin 32, ∀ t : Fin 64, ((lit0t (k.val * 64 + t.val)).extractLsb' 23 8 == 255#8) = false := by decide +kernel

/-- The sines. -/
theorem plain_sin : ∀ k : Fin 32, ∀ t : Fin 64, ((lit1t (k.val * 64 + t.val)).extractLsb' 23 8 == 255#8) = false := by decide +kernel

end Cert.ReferenceIdeal.Value
-- ==== Proof.Value.LogitFinite.lean ====
/- The logits are finite when the arguments are. -/
module

public import proofs.«01_k».proof.Proof.Value.KernelLayers
public import proofs.«01_k».proof.Proof.Value.RefLayers
public import proofs.«01_k».proof.Proof.Value.TableFinite

@[expose] public section

set_option maxRecDepth 16384

noncomputable section

namespace Cert.Spec

open Idealize.ShloMosaic Cert.KernelIdeal.Value

/-- A word whose exponent is not all ones stands for a real number. -/
theorem fine_word (w : BitVec 32) (h : (w.extractLsb' 23 8 == 255#8) = false) : Fine (word w) := by
  have hne : (w.extractLsb' 23 8).toNat ≠ 255 := by
    intro e
    have : w.extractLsb' 23 8 = 255#8 := BitVec.eq_of_toNat_eq (by rw [e]; rfl)
    rw [this] at h
    exact absurd h (by decide)
  show Fine (Ideal.ieee 8 23 w)
  unfold Ideal.ieee
  dsimp only
  rw [if_neg (show ¬ (w.extractLsb' 23 8).toNat = 2 ^ 8 - 1 from hne)]
  split
  · exact ⟨_, rfl⟩
  · exact ⟨_, rfl⟩

section
variable {a : Args} (H : FineArgs a) {re im : Fin 32 → Fin 64 → EReal} (hre : ∀ k t, Fine (re k t)) (him : ∀ k t, Fine (im k t))

include H hre in
/-- A part of the spectrum is finite. -/
theorem fine_part (b k : Fin 32) (d : Fin 1024) : Fine (part a re b k d) :=
  Fine.sum _ fun _ => (fine_y H _ _).mul (hre _ _)

include H hre him in
/-- The amplitudes are finite. -/
theorem fine_amp (b k : Fin 32) : Fine (amp a re im b k) := by
  have e : word 0x44800000#32 = ((1024 : ℝ) : EReal) := by
    have : ((1024 : ℝ) : EReal) = (((8388608 : ℝ) * (2 : ℝ) ^ (-13 : ℤ) : ℝ) : EReal) := by norm_num
    rw [this]
    simp [word, Ideal.ofBits, Ideal.ieee, -EReal.coe_mul]
  unfold amp
  rw [e]
  refine Fine.div (Fine.sum _ fun d => ?_) (by norm_num)
  obtain ⟨r, hr⟩ := fine_part H hre b k d
  obtain ⟨s, hs⟩ := fine_part H him b k d
  rw [hr, hs]
  refine ⟨Real.sqrt (r * r + s * s), ?_⟩
  rw [← EReal.coe_mul, ← EReal.coe_mul, ← EReal.coe_add]
  exact sqrt_coe (add_nonneg (mul_self_nonneg r) (mul_self_nonneg s))

include H hre him in
/-- The logits are finite. -/
theorem fine_logit (b : Fin 32) (e : Fin 14) : Fine (logit a re im b e) :=
  Fine.sum _ fun _ => (fine_amp H hre him _ _).mul (H.wg _ _)

end

open Cert.ReferenceIdeal Cert.ReferenceIdeal.Value

/-- Where an entry of the tables is. -/
theorem table_place (k : Fin 32) (t : Fin 64) : (S32x64.rowMajor (ix2 k t)).val = k.val * 64 + t.val :=
  Shape.rowMajor_val_two (d := ![32, 64]) (ix2 k t)

/-- The cosines are finite, -/
theorem fine_re (k : Fin 32) (t : Fin 64) : Fine (re k t) := by
  have e : re k t = word (lit0t (S32x64.rowMajor (ix2 k t)).val) := rfl
  rw [e, table_place]
  exact fine_word _ (plain_cos k t)

/-- and so are the sines. -/
theorem fine_im (k : Fin 32) (t : Fin 64) : Fine (im k t) := by
  have e : im k t = word (lit1t (S32x64.rowMajor (ix2 k t)).val) := rfl
  rw [e, table_place]
  exact fine_word _ (plain_sin k t)

end Cert.Spec

end
-- ==== Proof.Value.KernelResult.lean ====
/- The kernel's two results, as the problem's gates of the arguments it is called with. -/
module

public import proofs.«01_k».proof.Proof.Value.KernelRow
public import proofs.«01_k».proof.Proof.Value.KernelGate
public import proofs.«01_k».proof.Proof.Value.GateReads
public import proofs.«01_k».proof.Proof.Value.LogitFinite

@[expose] public section

set_option maxRecDepth 16384

noncomputable section

namespace Cert.KernelIdeal.Value

open Cert.KernelIdeal Cert.KernelIdeal.Gen Cert.KernelIdeal.Hand
open Idealize.ShloMosaic Idealize.ShloMosaic.TcCoe Idealize.SL Idealize.SL.Sem Cert.Spec
open Cert.ReferenceIdeal.Value (re im)

variable (m : (ℓ : Loc nD τ sig) → Buf (Elt Ideal) ℓ) (c : Dev nD)

/-- The gate kernel's first block, -/
def ampBlk : FVec Ideal S32x32 .f32 := iblk1 (W3 m) c 0 g0
/-- and its second. -/
def wgBlk : FVec Ideal S32x14 .f32 := iblk1 (W3 m) c 1 g0

/-- The gate kernel's first block holds the amplitudes. -/
theorem amp_read (H : FineArgs (kargs m c)) (b k : Fin 32) :
    ampBlk m c (ix2 b k) = amp (kargs m c) re im b k := by
  refine ((blkA m c b k).trans (entry_amp m c b k)).trans ((rows_read m c H ⟨b.val / 4, by omega⟩ ⟨b.val % 4 * 32 + k.val, by omega⟩).trans ?_)
  have e1 : seqOf ⟨b.val / 4, by omega⟩ ⟨b.val % 4 * 32 + k.val, by omega⟩ = b :=
    Fin.ext (by show b.val / 4 * 4 + (b.val % 4 * 32 + k.val) / 32 = b.val; omega)
  have e2 : laneFreq ⟨b.val % 4 * 32 + k.val, by omega⟩ = k :=
    Fin.ext (by show (b.val % 4 * 32 + k.val) % 32 = k.val; omega)
  rw [e1, e2]

/-- The second holds the gate weights. -/
theorem wg_read (k : Fin 32) (e : Fin 14) : wgBlk m c (ix2 k e) = (kargs m c).wg k e :=
  (blkB m c k e).trans (entry_gate m c k e)

/-- The gate kernel's logits are the problem's. -/
theorem logit_read (H : FineArgs (kargs m c)) (b : Fin 32) (e : Fin 14) :
    logit (kargs m c) re im b e
      = ∑ k : Fin 32, ampBlk m c (ix2 b k) * wgBlk m c (ix2 k e) :=
  @Finset.sum_congr (Fin 32) EReal _ _ _ _ _ rfl fun k _ =>
    (congrArg₂ (fun u v : EReal => u * v) (amp_read m c H b k) (wg_read m c k e)).symm

/-- The gates the kernel returns. -/
theorem kernel_gates (H : FineArgs (kargs m c)) {p q : Fin 32 → Fin 14} (T : ∀ b, Top (logit (kargs m c) re im b) (p b) (q b)) (b : Fin 32) (e : Fin 14) :
    (V5 m (outs m) c (Proc.devRef .tc main_v19_0) : FVec Ideal S32x14 .f32) (ix2 b e) = gate (logit (kargs m c) re im b) (p b) (q b) e :=
  (congrFun (end_gates m c) (ix2 b e)).trans
    (gatesOf_read (ampBlk m c) (wgBlk m c) b (logit_read m c H b) (T b) (fine_logit H fine_re fine_im b (q b)) e)

/-- The loads the kernel returns. -/
theorem kernel_load (H : FineArgs (kargs m c)) {p q : Fin 32 → Fin 14} (T : ∀ b, Top (logit (kargs m c) re im b) (p b) (q b)) (e : Fin 14) :
    (V5 m (outs m) c (Proc.devRef .tc main_v20) : IVec S14 32) (ix1 e)
      = Finset.fold IntOp.addi 0#32 (fun b => BitVec.setWidth 32 (BitVec.ofBool (decide (0 < gate (logit (kargs m c) re im b) (p b) (q b) e)))) Finset.univ :=
  (end_load m c e).trans (loadOf_read (ampBlk m c) (wgBlk m c) (fun b => gate (logit (kargs m c) re im b) (p b) (q b))
    (fun b e => gatesOf_read (ampBlk m c) (wgBlk m c) b (logit_read m c H b) (T b) (fine_logit H fine_re fine_im b (q b)) e) e)

end Cert.KernelIdeal.Value

end
-- ==== Proof.Value.ReferenceTop.lean ====
/- The reference's two greatest logits of a row, and where they are. -/
module

public import proofs.«01_k».proof.Proof.Value.TopTwo
public import proofs.«01_k».proof.Proof.Value.Finite
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Cert.Spec

/-- The columns' axis. -/
abbrev cols : Fin S32x14.rank := ⟨1, by decide⟩

/-- A row of the logits, in another column. -/
theorem along_row (b : Fin 32) (e k : Fin 14) :
    Shape.Idx.along (s := S32x14) (ix2 b e) cols (show Fin (S32x14.size cols) from k) = ix2 b k := by
  unfold Shape.Idx.along
  funext i
  fin_cases i
  · exact Function.update_of_ne (by decide) _ _
  · exact Function.update_self _ _ _

/-- Which logits of a row are in front of which. -/
def ahead (X : FVec Ideal S32x14 .f32) (b : Fin 32) (k k' : Fin 14) : Bool :=
  FloatOps.cmpfTotal (F := Ideal) (φ := .f32) .gt (X (ix2 b k)) (X (ix2 b k')) == 1#1

/-- The greater logit is in front. -/
theorem ahead_eq (X : FVec Ideal S32x14 .f32) (b : Fin 32) (k k' : Fin 14) :
    ahead X b k k' = decide ((X (ix2 b k') : EReal) < X (ix2 b k)) := by
  show (BitVec.ofBool (decide ((X (ix2 b k') : EReal) < X (ix2 b k))) == 1#1) = _
  cases decide ((X (ix2 b k') : EReal) < X (ix2 b k)) <;> rfl

/-- The order the sort goes by in a row. -/
theorem ahead_along (X : FVec Ideal S32x14 .f32) (b : Fin 32) (e : Fin 14) :
    (fun k k' : Fin (S32x14.size cols) => FloatOps.cmpfTotal (F := Ideal) (φ := .f32) .gt (X (Shape.Idx.along (s := S32x14) (ix2 b e) cols k)) (X (Shape.Idx.along (s := S32x14) (ix2 b e) cols k')) == 1#1) = ahead X b := by
  funext k k'
  exact congrArg₂ (fun u v : S32x14.Idx => FloatOps.cmpfTotal (F := Ideal) (φ := .f32) .gt (X u) (X v) == 1#1) (along_row b e k) (along_row b e k')

/-- A sort by the logits alone takes each row's entries in that order. -/
theorem along_sorted (X : FVec Ideal S32x14 .f32) (b : Fin 32) (e : Fin 14) :
    Shape.Idx.along (s := S32x14) (ix2 b e) cols (sortedFrom (fun k k' : Fin (S32x14.size cols) => FloatOps.cmpfTotal (F := Ideal) (φ := .f32) .gt (X (Shape.Idx.along (s := S32x14) (ix2 b e) cols k)) (X (Shape.Idx.along (s := S32x14) (ix2 b e) cols k')) == 1#1) ((ix2 b e : S32x14.Idx) cols))
      = ix2 b (sortedFrom (ahead X b) e) :=
  (congrArg (fun R : Fin 14 → Fin 14 → Bool => Shape.Idx.along (s := S32x14) (ix2 b e) cols (show Fin (S32x14.size cols) from sortedFrom R e)) (ahead_along X b e)).trans (along_row b e _)

/-- The sorted logits of a row, -/
theorem sort_fst (X : FVec Ideal S32x14 .f32) (Y : IVec S32x14 32) (b : Fin 32) (e : Fin 14) :
    (Host.sort2 S32x14 1 (fun l r => FloatOps.cmpfTotal (F := Ideal) (φ := .f32) .gt l.1 r.1) X Y).1 (ix2 b e) = X (ix2 b (sortedFrom (ahead X b) e)) := by
  unfold Host.sort2
  rw [dif_pos (show 1 < S32x14.rank by decide)]
  exact congrArg X (along_sorted X b e)

/-- and what is sorted along with them. -/
theorem sort_snd (X : FVec Ideal S32x14 .f32) (Y : IVec S32x14 32) (b : Fin 32) (e : Fin 14) :
    (Host.sort2 S32x14 1 (fun l r => FloatOps.cmpfTotal (F := Ideal) (φ := .f32) .gt l.1 r.1) X Y).2 (ix2 b e) = Y (ix2 b (sortedFrom (ahead X b) e)) := by
  unfold Host.sort2
  rw [dif_pos (show 1 < S32x14.rank by decide)]
  exact congrArg Y (along_sorted X b e)

/-- The first two of the columns. -/
def col (j : Fin 2) : Fin 14 := ⟨j.val, by omega⟩

variable (V : Valuation τ sig (Elt Ideal))

/-- The two greatest logits of a row, -/
theorem v108_eq (b : Fin 32) (j : Fin 2) :
    res_main_v108 (F := Ideal) V (ix2 b j) = res_main_v107 (F := Ideal) V (ix2 b (sortedFrom (ahead (res_main_v107 (F := Ideal) V) b) (col j))) := by
  pointwise [res_main_v108, Host.topK, sort_fst]
  exact sort_fst _ _ b (col j)

/-- and where they are. -/
theorem v123_eq (b : Fin 32) (j : Fin 2) :
    res_main_v123 (F := Ideal) V (ix2 b j) = BitVec.ofNat 32 (sortedFrom (ahead (res_main_v107 (F := Ideal) V) b) (col j)).val := by
  pointwise [res_main_v123, Host.topK, sort_snd]
  exact (sort_snd _ _ b (col j)).trans rfl

section top
variable {V} {b : Fin 32} {x : Fin 14 → EReal} {p q : Fin 14} (hx : ∀ e, res_main_v107 (F := Ideal) V (ix2 b e) = x e) (H : Top x p q)

include hx in
/-- The order of a row, from its logits. -/
theorem ahead_row (k k' : Fin 14) : ahead (res_main_v107 (F := Ideal) V) b k k' = decide (x k' < x k) := by
  rw [← hx k, ← hx k']
  exact ahead_eq _ b k k'

include hx H in
/-- The greatest logit, -/
theorem v108_zero : res_main_v108 (F := Ideal) V (ix2 b 0) = x p :=
  (v108_eq V b 0).trans ((hx _).trans (congrArg x (sorted_zero H (ahead_row hx))))

include hx H in
/-- the second greatest, -/
theorem v108_one : res_main_v108 (F := Ideal) V (ix2 b 1) = x q :=
  (v108_eq V b 1).trans ((hx _).trans (congrArg x (sorted_one H (ahead_row hx))))

include hx H in
/-- where the first is, -/
theorem v123_zero : res_main_v123 (F := Ideal) V (ix2 b 0) = BitVec.ofNat 32 p.val :=
  (v123_eq V b 0).trans (congrArg (fun k : Fin 14 => BitVec.ofNat 32 k.val) (sorted_zero H (ahead_row hx)))

include hx H in
/-- and the second. -/
theorem v123_one : res_main_v123 (F := Ideal) V (ix2 b 1) = BitVec.ofNat 32 q.val :=
  (v123_eq V b 1).trans (congrArg (fun k : Fin 14 => BitVec.ofNat 32 k.val) (sorted_one H (ahead_row hx)))

include hx H in
/-- Both of the two are at most the greatest. -/
theorem v108_le (j : S32x2.Idx) (hj : j 0 = b) : @LE.le EReal _ (res_main_v108 (F := Ideal) V j) (x p) := by
  have e : j = ix2 b (j 1) := by
    funext i
    fin_cases i
    · exact hj
    · rfl
  rw [e]
  exact le_of_eq_of_le (α := EReal) ((v108_eq V b (j 1)).trans (hx _)) (H.le1 _)

include hx H in
/-- The greatest of the two is the greatest logit. -/
theorem top_read : max (word 0xFF800000#32) (Finset.fold max (word 0xFF800000#32) (fun i => (res_main_v108 (F := Ideal) V i : EReal)) {i | reducesTo_S32x2_S32_d1.drop i = ix1 b}) = x p := by
  rw [show word 0xFF800000#32 = ⊥ by simp [word, Ideal.ofBits, Ideal.ieee], max_eq_right bot_le]
  refine le_antisymm ((Finset.fold_max_le (x p)).mpr ⟨bot_le, fun k hk => ?_⟩) ((Finset.le_fold_max (x p)).mpr (Or.inr ⟨ix2 b 0, ?_, le_of_eq (v108_zero hx H).symm⟩))
  · refine v108_le hx H k ?_
    exact congrFun (Finset.mem_filter.mp hk).2 0
  · refine Finset.mem_filter.mpr ⟨Finset.mem_univ _, ?_⟩
    funext i
    fin_cases i
    rfl

include hx H in
/-- The exponentials of the two, less the greatest. -/
theorem v115_read (j : Fin 2) {y : EReal} (hy : res_main_v108 (F := Ideal) V (ix2 b j) = y) :
    res_main_v115 (F := Ideal) V (ix2 b j) = Ideal.exp (y - x p) := by
  pointwise [res_main_v115, hy]
  exact congrArg (fun z : EReal => Ideal.exp (y - z)) (top_read hx H)

include hx H in
/-- The first exponential is one, -/
theorem v115_zero (hf : Fine (x p)) : res_main_v115 (F := Ideal) V (ix2 b 0) = (1 : EReal) := by
  refine (v115_read hx H 0 (v108_zero hx H)).trans ?_
  obtain ⟨r, hr⟩ := hf
  rw [hr, ← EReal.coe_sub, sub_self]
  show ((Real.exp 0 : ℝ) : EReal) = 1
  rw [Real.exp_zero]; rfl

include hx H in
/-- and this is the second. -/
theorem v115_one : res_main_v115 (F := Ideal) V (ix2 b 1) = Ideal.exp (x q - x p) := v115_read hx H 1 (v108_one hx H)

/-- The gates the reference scatters, -/
def shares (V : Valuation τ sig (Elt Ideal)) : FVec Ideal S32x2 .f32 :=
  Host.divf (res_main_v115 V) (broadcastInDim S32x2 ![0, 1] bcast_S32x1_S32x2_0_1 (broadcastInDim S32x1 ![0] bcast_S32_S32x1_0 (Host.reduceAdd (res_main_v115 V) (constant S_ .f32 0x00000000#32) reducesTo_S32x2_S32_d1 h_S_)))

/-- and the places it scatters them to. -/
def places (V : Valuation τ sig (Elt Ideal)) : IVec S32x2x2 32 :=
  concatenate S32x2x2 2 [⟨S32x2x1, (broadcastInDim S32x2x1 ![0, 1] bcast_S32x2_S32x2x1_0_1 (broadcastInDim S32x2 ![0, 1] bcast_S32x1_S32x2_0_1 (select (cmpi .slt (res_main_v122 V) (broadcastInDim S32x1 ![] bcast_S_S32x1 (constantI S_ 32 0#32))) (addi (res_main_v122 V) (broadcastInDim S32x1 ![] bcast_S_S32x1 (constantI S_ 32 32#32))) (res_main_v122 V))))⟩, ⟨S32x2x1, (broadcastInDim S32x2x1 ![0, 1] bcast_S32x2_S32x2x1_0_1 (select (cmpi .slt (res_main_v123 V) (broadcastInDim S32x2 ![] bcast_S_S32x2 (constantI S_ 32 0#32))) (addi (res_main_v123 V) (broadcastInDim S32x2 ![] bcast_S_S32x2 (constantI S_ 32 14#32))) (res_main_v123 V)))⟩] concatenates_S32x2x1_S32x2x1_S32x2x2_d2

include hx H in
/-- The gates scattered, from the exponentials. -/
theorem shares_read (hf : Fine (x p)) (j : Fin 2) {y : EReal} (hy : res_main_v115 (F := Ideal) V (ix2 b j) = y) :
    shares V (ix2 b j) = Ideal.div y (1 + Ideal.exp (x q - x p)) := by
  pointwise [shares, hy]
  refine congrArg (Ideal.div y) ?_
  refine (Fin.sum_univ_two (M := EReal) _).trans ?_
  exact congrArg₂ (fun u v : EReal => u + v) (v115_zero hx H hf) (v115_one hx H)

/-- A small index is not moved by the wrap of negative ones. -/
theorem wrap_row (b : Fin 32) : Scalar.select (IntOp.cmpi .slt (BitVec.ofNat 32 b.val) 0#32) (IntOp.addi (BitVec.ofNat 32 b.val) 32#32) (BitVec.ofNat 32 b.val) = BitVec.ofNat 32 b.val := by
  revert b; decide
@[inherit_doc wrap_row] theorem wrap_col (p : Fin 14) : Scalar.select (IntOp.cmpi .slt (BitVec.ofNat 32 p.val) 0#32) (IntOp.addi (BitVec.ofNat 32 p.val) 14#32) (BitVec.ofNat 32 p.val) = BitVec.ofNat 32 p.val := by
  revert p; decide

/-- The rows scattered to, -/
theorem places_row (V : Valuation τ sig (Elt Ideal)) (b : Fin 32) (j : Fin 2) : places V (ix3 b j 0) = BitVec.ofNat 32 b.val := by
  pointwise [places, res_main_v122]
  exact wrap_row b

/-- and the columns. -/
theorem places_col (V : Valuation τ sig (Elt Ideal)) (b : Fin 32) (j : Fin 2) {c : Fin 14}
    (hc : res_main_v123 (F := Ideal) V (ix2 b j) = BitVec.ofNat 32 c.val) : places V (ix3 b j 1) = BitVec.ofNat 32 c.val := by
  pointwise [places, hc]
  exact wrap_col c

end top

end Cert.ReferenceIdeal.Value

end
-- ==== Proof.Value.ReferenceGate.lean ====
/- The reference's two results: the gates of each row of logits, and how often each is positive. -/
module

public import Idealize.ShloMosaic.Lib.Routing.OpsPair
public import Idealize.ShloMosaic.Lib.Routing.OpsSet
public import proofs.«01_k».proof.Proof.Value.ReferenceTop

@[expose] public section

set_option maxRecDepth 16384

noncomputable section

namespace Cert.ReferenceIdeal.Value

open Cert.ReferenceIdeal Cert.ReferenceIdeal.Gen Idealize.ShloMosaic Cert.Spec

/-- The gates the reference returns, -/
def refGates (V : Valuation τ sig (Elt Ideal)) : FVec Ideal S32x14 .f32 :=
  Host.scatter scatter_S32x14_S32x2x2_S32x2_n_01_01_2 (fun _ b => b) (broadcastInDim S32x14 ![] bcast_S_S32x14 (constant S_ .f32 0x00000000#32)) (places V) (shares V)

/-- and the loads. -/
def refLoad (V : Valuation τ sig (Elt Ideal)) : IVec S14 32 :=
  Host.reduce IntOp.addi (extui 32 (cmpf .ogt (refGates V) (broadcastInDim S32x14 ![] bcast_S_S32x14 (constant S_ .f32 0x00000000#32))) natLt_1_32) (constantI S_ 32 0#32) reducesTo_S32x14_S14_d0 h_S_

/-- The word of a row, read signed. -/
theorem word_row (b : Fin 32) : (BitVec.ofNat 32 b.val).toInt = (b.val : ℤ) := by revert b; decide

section gates
variable {V : Valuation τ sig (Elt Ideal)} {x : Fin 32 → Fin 14 → EReal} {p q : Fin 32 → Fin 14}
    (hx : ∀ b e, res_main_v107 (F := Ideal) V (ix2 b e) = x b e) (H : ∀ b, Top (x b) (p b) (q b))

include hx H in
/-- The first of a row's two gates is scattered to the greatest logit's place, and only there. -/
theorem lands_zero (a b : Fin 32) (e : Fin 14) :
    scatter_S32x14_S32x2x2_S32x2_n_01_01_2.resultIdx? (ix2 a (0 : Fin 2)) (places V) = some (ix2 b e) ↔ a = b ∧ p a = e := by
  refine (Routing.scatter_lands2 scatter_S32x14_S32x2x2_S32x2_n_01_01_2 rfl rfl rfl (places V) a 0 b e).trans ?_
  have er : (places V (ValueIdx.ix3 a 0 0)).toInt = (a.val : ℤ) := (congrArg BitVec.toInt (places_row V a 0)).trans (word_row a)
  have ec : (places V (ValueIdx.ix3 a 0 1)).toInt = ((p a).val : ℤ) := (congrArg BitVec.toInt (places_col V a 0 (v123_zero (hx a) (H a)))).trans (word_index (p a))
  rw [er, ec]
  exact and_congr (by rw [Fin.ext_iff]; omega) (by rw [Fin.ext_iff]; omega)

include hx H in
/-- The second is scattered to the second greatest logit's place, and only there. -/
theorem lands_one (a b : Fin 32) (e : Fin 14) :
    scatter_S32x14_S32x2x2_S32x2_n_01_01_2.resultIdx? (ix2 a (1 : Fin 2)) (places V) = some (ix2 b e) ↔ a = b ∧ q a = e := by
  refine (Routing.scatter_lands2 scatter_S32x14_S32x2x2_S32x2_n_01_01_2 rfl rfl rfl (places V) a 1 b e).trans ?_
  have er : (places V (ValueIdx.ix3 a 1 0)).toInt = (a.val : ℤ) := (congrArg BitVec.toInt (places_row V a 1)).trans (word_row a)
  have ec : (places V (ValueIdx.ix3 a 1 1)).toInt = ((q a).val : ℤ) := (congrArg BitVec.toInt (places_col V a 1 (v123_one (hx a) (H a)))).trans (word_index (q a))
  rw [er, ec]
  exact and_congr (by rw [Fin.ext_iff]; omega) (by rw [Fin.ext_iff]; omega)

/-- An update is the first or the second of some row. -/
theorem update_cases {P : S32x2.Idx → Prop} (h0 : ∀ a : Fin 32, P (ix2 a (0 : Fin 2))) (h1 : ∀ a : Fin 32, P (ix2 a (1 : Fin 2))) (k : S32x2.Idx) : P k := by
  have e : k = ix2 (k 0) (k 1) := by
    funext i
    fin_cases i <;> rfl
  rw [e]
  generalize k 0 = a
  generalize k 1 = j
  have hj : ∀ j : Fin 2, P (ix2 a j) := fun j => by
    fin_cases j
    · exact h0 a
    · exact h1 a
  exact hj j

include hx H in
/-- The gates the reference returns. -/
theorem refGates_read (hf : ∀ b e, Fine (x b e)) (b : Fin 32) (e : Fin 14) : refGates V (ix2 b e) = gate (x b) (p b) (q b) e := by
  have s0 := shares_read (hx b) (H b) (hf b _) 0 (v115_zero (hx b) (H b) (hf b _))
  have s1 := shares_read (hx b) (H b) (hf b _) 1 (v115_one (hx b) (H b))
  unfold refGates gate
  by_cases h : e = p b
  · rw [if_pos h]
    refine Routing.scatter_set_hit _ _ _ _ _ _ (update_cases (fun a ha => ?_) fun a ha => ?_) (ix2 b (0 : Fin 2)) ((lands_zero hx H b b e).2 ⟨rfl, h.symm⟩)
    · obtain ⟨rfl, -⟩ := (lands_zero hx H a b e).1 ha
      exact s0
    · obtain ⟨rfl, h'⟩ := (lands_one hx H a b e).1 ha
      exact absurd (h'.trans h) (H a).ne
  · rw [if_neg h]
    by_cases h1 : e = q b
    · rw [if_pos h1]
      refine Routing.scatter_set_hit _ _ _ _ _ _ (update_cases (fun a ha => ?_) fun a ha => ?_) (ix2 b (1 : Fin 2)) ((lands_one hx H b b e).2 ⟨rfl, h1.symm⟩)
      · obtain ⟨rfl, h'⟩ := (lands_zero hx H a b e).1 ha
        exact absurd h'.symm h
      · obtain ⟨rfl, -⟩ := (lands_one hx H a b e).1 ha
        exact s1
    · rw [if_neg h1]
      refine (Routing.scatter_set_miss _ _ _ _ _ (update_cases (fun a ha => ?_) fun a ha => ?_)).trans ?_
      · obtain ⟨rfl, h'⟩ := (lands_zero hx H a b e).1 ha
        exact absurd h'.symm h
      · obtain ⟨rfl, h'⟩ := (lands_one hx H a b e).1 ha
        exact absurd h'.symm h1
      · pointwise []

end gates

/-- The loads the reference returns. -/
theorem refLoad_read (V : Valuation τ sig (Elt Ideal)) (G : Fin 32 → Fin 14 → EReal) (hG : ∀ b e, refGates V (ix2 b e) = G b e) (e : Fin 14) :
    refLoad V (ix1 e) = Finset.fold IntOp.addi 0#32 (fun b => BitVec.setWidth 32 (BitVec.ofBool (decide (0 < G b e)))) Finset.univ := by
  unfold refLoad
  pointwise [hG]

end Cert.ReferenceIdeal.Value

end
-- ==== Proof.Value.Precondition.lean ====
/- What the precondition says: every float argument holds finite numbers. -/
module

public import Idealize.ShloMosaic.Lib.ReduceAll
public import proofs.«01_k».proof.Pre_finite
public import proofs.«01_k».proof.Proof.Value.Finite

@[expose] public section

set_option maxRecDepth 16384

noncomputable section

namespace Cert.Pre_finite.Hand

open Cert.Pre_finite Idealize.ShloMosaic Cert.Spec

/-- The side conditions of the printed precondition. -/
theorem facts : Cert.Pre_finite.Facts where
  bcast_S_S32x64x8x8x128 := by decide
  reducesTo_S32x64x8x8x128_S_d0_1_2_3_4 := by decide
  h_S_ := by decide
  bcast_S_S256x128x2x2 := by decide
  reducesTo_S256x128x2x2_S_d0_1_2_3 := by decide
  bcast_S_S256 := by decide
  reducesTo_S256_S_d0 := by decide
  bcast_S_S512x256x2x2 := by decide
  reducesTo_S512x256x2x2_S_d0_1_2_3 := by decide
  bcast_S_S512 := by decide
  reducesTo_S512_S_d0 := by decide
  bcast_S_S1024x512x2x2 := by decide
  reducesTo_S1024x512x2x2_S_d0_1_2_3 := by decide
  bcast_S_S1024 := by decide
  reducesTo_S1024_S_d0 := by decide
  bcast_S_S1024x1024 := by decide
  reducesTo_S1024x1024_S_d0_1 := by decide
  bcast_S_S32x14 := by decide
  reducesTo_S32x14_S_d0_1 := by decide

/-- Every element of an array is finite. -/
def Finite {s : Shape} (x : FVec Ideal s .f32) : Prop := ∀ i, Fine (x i)

/-- A value below infinity in size is finite. -/
theorem fine_of_abs {v : EReal} (h : max v (-v) < Ideal.ofBits .f32 0x7F800000#32) : Fine v := by
  have e : Ideal.ofBits .f32 0x7F800000#32 = ⊤ := by simp [Ideal.ofBits, Ideal.ieee]
  rw [e] at h
  induction v using EReal.rec with
  | bot => exact absurd h (by simp)
  | top => exact absurd h (by simp)
  | coe r => exact ⟨r, rfl⟩

/-- If a conjunction of two flags holds, both do. -/
theorem both {x y : IVec S_ 1} (h : andi x y = fun _ => 1#1) : x = (fun _ => 1#1) ∧ y = fun _ => 1#1 :=
  ⟨funext fun i => (IntOp.andi_eq_one.1 (congrFun h i)).1, funext fun i => (IntOp.andi_eq_one.1 (congrFun h i)).2⟩

/-- A scalar has one index. -/
instance : Subsingleton S_.Idx := ⟨fun i j => funext fun a => a.elim0⟩

/-- If every element of an array is below infinity in size, the array is finite. -/
theorem finite_of_all {s : Shape} {axes : List (Fin s.rank)} (x : FVec Ideal s .f32) (hb : S_.BroadcastsInDim s (![] : Fin 0 → Fin s.rank))
    (hr : s.ReducesTo axes S_) (h0 : 0 < S_.numel)
    (h : Host.reduce IntOp.andi (cmpf .olt (Host.absf x) (broadcastInDim s ![] hb (constant S_ .f32 0x7F800000#32))) (constantI S_ 1 1#1) hr h0 = fun _ => 1#1) :
    Finite x := by
  intro i
  have hi := Host.reduce_andi_all _ _ hr h0 (fun a => a.elim0) (congrFun h _) i
  refine fine_of_abs ?_
  have hd : BitVec.ofBool (decide (max (x i : EReal) (-(x i : EReal)) < Ideal.ofBits .f32 0x7F800000#32)) = 1#1 := hi
  by_contra hn
  rw [decide_eq_false hn] at hd
  exact absurd hd (by decide)

/-- The precondition says that every float argument is finite. -/
theorem finite_args (x0 : FVec Ideal S32x64x8x8x128 .f32) (x1 : IVec S_ 1) (x2 : FVec Ideal S256x128x2x2 .f32) (x3 : FVec Ideal S256 .f32) (x4 : FVec Ideal S256 .f32) (x5 : FVec Ideal S256 .f32) (x6 : FVec Ideal S512x256x2x2 .f32) (x7 : FVec Ideal S512 .f32) (x8 : FVec Ideal S512 .f32) (x9 : FVec Ideal S512 .f32) (x10 : FVec Ideal S1024x512x2x2 .f32) (x11 : FVec Ideal S1024 .f32) (x12 : FVec Ideal S1024 .f32) (x13 : FVec Ideal S1024 .f32) (x14 : FVec Ideal S1024x1024 .f32) (x15 : FVec Ideal S1024 .f32) (x16 : FVec Ideal S32x14 .f32)
    (h : @fn facts Ideal _ x0 x1 x2 x3 x4 x5 x6 x7 x8 x9 x10 x11 x12 x13 x14 x15 x16 = fun _ => 1#1) :
    Finite x0 ∧ Finite x2 ∧ Finite x3 ∧ Finite x4 ∧ Finite x5 ∧ Finite x6 ∧ Finite x7 ∧ Finite x8 ∧ Finite x9 ∧ Finite x10 ∧ Finite x11 ∧ Finite x12 ∧ Finite x13 ∧ Finite x14 ∧ Finite x15 ∧ Finite x16 := by
  unfold fn fn_part1 fn_part2 fn_part3 fn_part4 at h
  dsimp only at h
  obtain ⟨h, h16⟩ := both h
  obtain ⟨h, h15⟩ := both h
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  exact ⟨finite_of_all _ _ _ _ h, finite_of_all _ _ _ _ h2, finite_of_all _ _ _ _ h3, finite_of_all _ _ _ _ h4, finite_of_all _ _ _ _ h5, finite_of_all _ _ _ _ h6, finite_of_all _ _ _ _ h7, finite_of_all _ _ _ _ h8, finite_of_all _ _ _ _ h9, finite_of_all _ _ _ _ h10, finite_of_all _ _ _ _ h11, finite_of_all _ _ _ _ h12, finite_of_all _ _ _ _ h13, finite_of_all _ _ _ _ h14, finite_of_all _ _ _ _ h15, finite_of_all _ _ _ _ h16⟩

end Cert.Pre_finite.Hand

end
-- ==== Proof.Value.Agree.lean ====
/- The two programs' results, side by side: from equal finite arguments, the same gates and the same loads. -/
module

public import proofs.«01_k».proof.Defs
public import proofs.«01_k».proof.Proof.Gen.ReferenceIdeal.Run
public import proofs.«01_k».proof.Proof.Value.KernelResult
public import proofs.«01_k».proof.Proof.Value.ReferenceGate
public import proofs.«01_k».proof.Proof.Value.Precondition

@[expose] public section

set_option maxRecDepth 16384

noncomputable section

namespace Cert.Agree

open Idealize.ShloMosaic Idealize.ShloMosaic.TcCoe Idealize.SL Idealize.SL.Sem Cert.Spec
open Cert.KernelIdeal.Gen (V5)
open Cert.KernelIdeal.Hand (outs)
open Cert.KernelIdeal.Value (kargs FineArgs kernel_gates kernel_load)
open Cert.ReferenceIdeal.Value (args re im refGates refLoad refGates_read refLoad_read v107_eq)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Under the precondition every number the kernel is called with is finite. -/
theorem fine_args (h : @Pre_KernelIdeal_finite Cert.Pre_finite.Hand.facts m) : FineArgs (kargs m c) := by
  obtain ⟨h0, h2, h3, h4, h5, h6, h7, h8, h9, h10, h11, h12, h13, h14, h15, h16⟩ := Cert.Pre_finite.Hand.finite_args _ _ _ _ _ _ _ _ _ _ _ _ _ _ _ _ _ (h c)
  exact {
    x := fun _ _ _ _ => h0 _
    w0 := fun _ _ _ _ => h2 _
    b0 := fun _ => h3 _
    g0 := fun _ => h4 _
    e0 := fun _ => h5 _
    w1 := fun _ _ _ _ => h6 _
    b1 := fun _ => h7 _
    g1 := fun _ => h8 _
    e1 := fun _ => h9 _
    w2 := fun _ _ _ _ => h10 _
    b2 := fun _ => h11 _
    g2 := fun _ => h12 _
    e2 := fun _ => h13 _
    fw := fun _ _ => h14 _
    fb := fun _ => h15 _
    wg := fun _ _ => h16 _ }

/-- Memories that agree on the arguments give the problem the same numbers. -/
theorem args_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    args (StableHlo.launchContents m' c) = kargs m c := by
  obtain ⟨h0, -, h2, h3, h4, h5, h6, h7, h8, h9, h10, h11, h12, h13, h14, h15, h16⟩ := h
  exact (Args.mk.injEq ..).mpr ⟨
    funext fun n => funext fun h => funext fun w => funext fun k => congrFun h0 _,
    funext fun o => funext fun k => funext fun i => funext fun j => congrFun h2 _,
    funext fun o => congrFun h3 _,
    funext fun o => congrFun h4 _,
    funext fun o => congrFun h5 _,
    funext fun o => funext fun k => funext fun i => funext fun j => congrFun h6 _,
    funext fun o => congrFun h7 _,
    funext fun o => congrFun h8 _,
    funext fun o => congrFun h9 _,
    funext fun o => funext fun k => funext fun i => funext fun j => congrFun h10 _,
    funext fun o => congrFun h11 _,
    funext fun o => congrFun h12 _,
    funext fun o => congrFun h13 _,
    funext fun k => funext fun d => congrFun h14 _,
    funext fun o => congrFun h15 _,
    funext fun k => funext fun e => congrFun h16 _⟩

/-- Each row of logits has its two largest, and all of them are finite; so both programs end with the same results. -/
theorem results (H : FineArgs (kargs m c)) (e : args (StableHlo.launchContents m' c) = kargs m c) :
    refGates (StableHlo.launchContents m' c) = (V5 m (outs m) c (Proc.devRef .tc Cert.KernelIdeal.main_v19_0) : FVec Ideal Cert.KernelIdeal.S32x14 .f32)
      ∧ refLoad (StableHlo.launchContents m' c) = (V5 m (outs m) c (Proc.devRef .tc Cert.KernelIdeal.main_v20) : IVec Cert.KernelIdeal.S14 32) := by
  choose p q T using fun b => exists_top (logit (kargs m c) re im b)
  have hx : ∀ b k, Cert.ReferenceIdeal.Value.res_main_v107 (F := Ideal) (StableHlo.launchContents m' c) (ix2 b k) = logit (kargs m c) re im b k :=
    fun b k => (v107_eq _ b k).trans (by rw [e])
  have G := refGates_read (V := StableHlo.launchContents m' c) hx T (fun b k => fine_logit H fine_re fine_im b k)
  constructor
  · funext i
    rw [ValueIdx.eq_ix2 i]
    exact (G _ _).trans (kernel_gates m c H T _ _).symm
  · funext i
    rw [ValueIdx.eq_ix1 i]
    exact (refLoad_read _ _ G _).trans (kernel_load m c H T _).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run.KernelRun
public import proofs.«01_k».proof.Proof.Run.KernelIdealRun
public import proofs.«01_k».proof.Proof.Value.Agree
public import Idealize.ShloMosaic.Adequacy
import Idealize.ShloMosaic.Lib.Quiescent
public import Idealize.ShloMosaic.Init

@[expose] public section

noncomputable section

namespace Cert.Proof

open Idealize.ShloMosaic Idealize.SL.Sem Cert.Kernel

/-- The reference leaves its arguments as they were; it has no semaphores, so all of them are at zero. -/
theorem frame_reference : Cert.quiescent_ReferenceIdeal (hReferenceIdeal := Cert.ReferenceIdeal.Gen.facts) :=
  fun m g _ => (θ_run _ _ _).mono
    (fun r h => ⟨fun c => (h c).2.2, sem_eq_zero_of_no_sems rfl _⟩)
    (Cert.ReferenceIdeal.Value.run (F := Ideal) m g)

/-- From equal finite arguments the kernel and the reference end with the same gates and the same loads. -/
theorem agree : @Cert.algebraic_KernelIdeal_ReferenceIdeal_pre_finite Cert.KernelIdeal.Gen.facts Cert.ReferenceIdeal.Gen.facts Cert.Pre_finite.Hand.facts := by
  intro m g m' g' hpre hargs
  have R := fun c => Cert.Agree.results m m' c (Cert.Agree.fine_args m c hpre) (Cert.Agree.args_eq m m' c (hargs c))
  exact ⟨fun c => Cert.KernelIdeal.Gen.V5 m (Cert.KernelIdeal.Hand.outs m) c (Proc.devRef .tc Cert.KernelIdeal.main_v19_0),
    fun c => Cert.KernelIdeal.Gen.V5 m (Cert.KernelIdeal.Hand.outs m) c (Proc.devRef .tc Cert.KernelIdeal.main_v20),
    (θ_run _ _ _).mono (fun _ h => h.1) (Cert.KernelIdeal.Hand.ends (F := Ideal) m g),
    (θ_run _ _ _).mono (fun _ h c => ⟨(h c).1.trans (R c).1, (h c).2.1.trans (R c).2, (h c).2.2⟩) (Cert.ReferenceIdeal.Value.run (F := Ideal) m' g')⟩

/-- The claims of the certificate. -/
theorem claim : Cert.Claim :=
  ⟨Cert.Kernel.Gen.facts, Cert.KernelIdeal.Gen.facts, Cert.ReferenceIdeal.Gen.facts, Cert.Pre_finite.Hand.facts,
    fun m g _ => Cert.Kernel.Hand.frame m g,
    fun m g _ => Cert.KernelIdeal.Hand.frame m g,
    fun m g _ => Cert.KernelIdeal.Hand.frame m g,
    frame_reference,
    fun m g _ => frame_reference m g trivial,
    trivial,
    agree⟩

end Cert.Proof

end
